-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x6400 : Shape := ⟨3, ![256, 1, 6400]⟩
abbrev S3200x27648 : Shape := ⟨2, ![3200, 27648]⟩
abbrev S50x27648 : Shape := ⟨2, ![50, 27648]⟩
abbrev S27648 : Shape := ⟨1, ![27648]⟩
abbrev S256x6400 : Shape := ⟨2, ![256, 6400]⟩
abbrev S1x27648 : Shape := ⟨2, ![1, 27648]⟩
abbrev S256x27648 : Shape := ⟨2, ![256, 27648]⟩
abbrev S256x1 : Shape := ⟨2, ![256, 1]⟩
abbrev S3200x512 : Shape := ⟨2, ![3200, 512]⟩
abbrev S50x512 : Shape := ⟨2, ![50, 512]⟩
abbrev S1x512 : Shape := ⟨2, ![1, 512]⟩
abbrev S256x512 : Shape := ⟨2, ![256, 512]⟩
abbrev S256 : Shape := ⟨1, ![256]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩
abbrev S256x128 : Shape := ⟨2, ![256, 128]⟩

abbrev nBuf : Space → Nat
  | .hbm => 9
  | .vmem => 11
  | .smem => 0
  | _ => 0

abbrev bufTy : (tb : Table) → Fin (tcTables nBuf tb) → BufTy
  | .hbm, ⟨0, _⟩ => ⟨S256x1x6400, .bf16⟩
  | .hbm, ⟨1, _⟩ => ⟨S3200x27648, .i8⟩
  | .hbm, ⟨2, _⟩ => ⟨S50x27648, .f32⟩
  | .hbm, ⟨3, _⟩ => ⟨S27648, .f32⟩
  | .hbm, ⟨4, _⟩ => ⟨S256x6400, .bf16⟩
  | .hbm, ⟨5, _⟩ => ⟨S1x27648, .f32⟩
  | .hbm, ⟨6, _⟩ => ⟨S256x27648, .bf16⟩
  | .hbm, ⟨7, _⟩ => ⟨S256x6400, .fp8e4m3⟩
  | .hbm, ⟨8, _⟩ => ⟨S256x1, .f32⟩
  | .local _ .vmem, ⟨0, _⟩ => ⟨S256x6400, .bf16⟩
  | .local _ .vmem, ⟨1, _⟩ => ⟨S3200x512, .i8⟩
  | .local _ .vmem, ⟨2, _⟩ => ⟨S3200x512, .i8⟩
  | .local _ .vmem, ⟨3, _⟩ => ⟨S50x512, .f32⟩
  | .local _ .vmem, ⟨4, _⟩ => ⟨S50x512, .f32⟩
  | .local _ .vmem, ⟨5, _⟩ => ⟨S1x512, .f32⟩
  | .local _ .vmem, ⟨6, _⟩ => ⟨S1x512, .f32⟩
  | .local _ .vmem, ⟨7, _⟩ => ⟨S256x512, .bf16⟩
  | .local _ .vmem, ⟨8, _⟩ => ⟨S256x512, .bf16⟩
  | .local _ .vmem, ⟨9, _⟩ => ⟨S256x6400, .fp8e4m3⟩
  | .local _ .vmem, ⟨10, _⟩ => ⟨S256x1, .f32⟩
  | _, _ => ⟨S256x1x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![54], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x6400 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3200x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S50x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x6400 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S256x1x6400 : Shape := ⟨3, ![256, 1, 6400]⟩
abbrev S3200x27648 : Shape := ⟨2, ![3200, 27648]⟩
abbrev S50x27648 : Shape := ⟨2, ![50, 27648]⟩
abbrev S27648 : Shape := ⟨1, ![27648]⟩
abbrev S256x6400 : Shape := ⟨2, ![256, 6400]⟩
abbrev S1x27648 : Shape := ⟨2, ![1, 27648]⟩
abbrev S256x27648 : Shape := ⟨2, ![256, 27648]⟩
abbrev S256x1 : Shape := ⟨2, ![256, 1]⟩
abbrev S256 : Shape := ⟨1, ![256]⟩
abbrev S3200x1x27648 : Shape := ⟨3, ![3200, 1, 27648]⟩
abbrev S3200x2x27648 : Shape := ⟨3, ![3200, 2, 27648]⟩
abbrev S6400x27648 : Shape := ⟨2, ![6400, 27648]⟩
abbrev S256x50x128 : Shape := ⟨3, ![256, 50, 128]⟩
abbrev S50x128x27648 : Shape := ⟨3, ![50, 128, 27648]⟩
abbrev S50x256x27648 : Shape := ⟨3, ![50, 256, 27648]⟩
abbrev S50x1x27648 : Shape := ⟨3, ![50, 1, 27648]⟩

abbrev nBuf : Space → Nat
  | .hbm => 9
  | .vmem => 7
  | .smem => 0
  | _ => 0

abbrev bufTy : (tb : Table) → Fin (tcTables nBuf tb) → BufTy
  | .hbm, ⟨0, _⟩ => ⟨S256x1x6400, .bf16⟩
  | .hbm, ⟨1, _⟩ => ⟨S3200x27648, .i8⟩
  | .hbm, ⟨2, _⟩ => ⟨S50x27648, .f32⟩
  | .hbm, ⟨3, _⟩ => ⟨S27648, .f32⟩
  | .hbm, ⟨4, _⟩ => ⟨S256x6400, .bf16⟩
  | .hbm, ⟨5, _⟩ => ⟨S1x27648, .f32⟩
  | .hbm, ⟨6, _⟩ => ⟨S256x27648, .bf16⟩
  | .hbm, ⟨7, _⟩ => ⟨S256x6400, .fp8e4m3⟩
  | .hbm, ⟨8, _⟩ => ⟨S256x1, .f32⟩
  | .local _ .vmem, ⟨0, _⟩ => ⟨S256x6400, .bf16⟩
  | .local _ .vmem, ⟨1, _⟩ => ⟨S3200x27648, .i8⟩
  | .local _ .vmem, ⟨2, _⟩ => ⟨S50x27648, .f32⟩
  | .local _ .vmem, ⟨3, _⟩ => ⟨S1x27648, .f32⟩
  | .local _ .vmem, ⟨4, _⟩ => ⟨S256x27648, .bf16⟩
  | .local _ .vmem, ⟨5, _⟩ => ⟨S256x6400, .fp8e4m3⟩
  | .local _ .vmem, ⟨6, _⟩ => ⟨S256x1, .f32⟩
  | _, _ => ⟨S256x1x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x6400 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3200x27648 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S50x27648 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x27648 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x27648 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x6400 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.PRuns.lean ====
/-
  Where the body of the kernel's pipeline stands at each grid point: its one branch condition in closed form, the
  windows that are live or idle there, and each window's current staging buffer as the pipeline passes it.
  Of the kernel as written; the module of the same name with K in front says the same of its ideal form.
-/
module

public import proofs.«01_k».proof.Proof.Gen.Kernel.Frame
public import proofs.«01_k».proof.Proof.Gen.Kernel.Skeleton
public import Idealize.ShloMosaic.Lib.Pipeline.TableIdle

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 54 = 0 :=
  (fun t => by
    have ht : t.val < 54 := Nat.lt_of_lt_of_eq t.isLt N_0
    have e0 : (grid0.coords t 0).val = t.val / 1 % 54 := Pipeline.Grid.coords_val t 0 (by decide) rfl
    simp only [cond0_0, k0_cond1, e0]
    word_cmp
   : ∀ t : Fin grid0.N, cond0_0 (grid0.coords t) ↔ t.val % 54 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x6400 .bf16 := win0_0.stage (cfg0.slots t 0)
/-- It is a whole buffer. -/
abbrev hs0_0 (t : Fin cfg0.N) : (ms0_0 t).IsWhole := hstage0_0 ((cfg0.slots t 0).cast nbuf0_0)
/-- The window's current staging buffer at point `t`. -/
abbrev ms0_1 (t : Fin cfg0.N) : Memref sig .tc .vmem S3200x512 .i8 := win0_1.stage (cfg0.slots t 1)
/-- It is a whole buffer. -/
abbrev hs0_1 (t : Fin cfg0.N) : (ms0_1 t).IsWhole := hstage0_1 ((cfg0.slots t 1).cast nbuf0_1)
/-- The window's current staging buffer at point `t`. -/
abbrev ms0_2 (t : Fin cfg0.N) : Memref sig .tc .vmem S50x512 .f32 := win0_2.stage (cfg0.slots t 2)
/-- It is a whole buffer. -/
abbrev hs0_2 (t : Fin cfg0.N) : (ms0_2 t).IsWhole := hstage0_2 ((cfg0.slots t 2).cast nbuf0_2)
/-- The window's current staging buffer at point `t`. -/
abbrev ms0_3 (t : Fin cfg0.N) : Memref sig .tc .vmem S1x512 .f32 := win0_3.stage (cfg0.slots t 3)
/-- It is a whole buffer. -/
abbrev hs0_3 (t : Fin cfg0.N) : (ms0_3 t).IsWhole := hstage0_3 ((cfg0.slots t 3).cast nbuf0_3)
/-- The window's current staging buffer at point `t`. -/
abbrev ms0_4 (t : Fin cfg0.N) : Memref sig .tc .vmem S256x512 .bf16 := win0_4.stage (cfg0.slots t 4)
/-- It is a whole buffer. -/
abbrev hs0_4 (t : Fin cfg0.N) : (ms0_4 t).IsWhole := hstage0_4 ((cfg0.slots t 4).cast nbuf0_4)
/-- The window's current staging buffer at point `t`. -/
abbrev ms0_5 (t : Fin cfg0.N) : Memref sig .tc .vmem S256x6400 .fp8e4m3 := win0_5.stage (cfg0.slots t 5)
/-- It is a whole buffer. -/
abbrev hs0_5 (t : Fin cfg0.N) : (ms0_5 t).IsWhole := hstage0_5 ((cfg0.slots t 5).cast nbuf0_5)
/-- The window's current staging buffer at point `t`. -/
abbrev ms0_6 (t : Fin cfg0.N) : Memref sig .tc .vmem S256x1 .f32 := win0_6.stage (cfg0.slots t 6)
/-- It is a whole buffer. -/
abbrev hs0_6 (t : Fin cfg0.N) : (ms0_6 t).IsWhole := hstage0_6 ((cfg0.slots t 6).cast nbuf0_6)

end Cert.Kernel.Hand

end
-- ==== Proof.PBody.lean ====
/-
  What the kernel's body stores into the window of the product, as one sum over the fifty groups of 128 weight rows:
  one group's product (`grp`), the running sum over the groups (`acc`), and the stored block (`yPay`).
  Of the kernel as written; the module of the same name with K in front says the same of its ideal form.
-/
module

public import proofs.«01_k».proof.Proof.PRuns

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One group of 128 rows of the weight -/

/-- A group's packed bytes, two signed 4-bit values to a byte, as rows of 8-bit float values: the low half of packed row `i`
    is row `2 * i`, the high half row `2 * i + 1`. -/
def unpackW (w : Vec F S64x512 .i8) : FVec F S128x512 .fp8e4m3 :=
  truncf .fp8e4m3 (sitofp .bf16 (shrsi (shapeCast S128x512 (concatenate S64x2x512 1
    [⟨S64x1x512, shapeCast S64x1x512 (shli w (broadcast S64x512 4#8) : IVec S64x512 8) shapeCasts_S64x512_S64x1x512⟩,
     ⟨S64x1x512, shapeCast S64x1x512 (w : IVec S64x512 8) shapeCasts_S64x512_S64x1x512⟩]
    concatenates_S64x1x512_S64x1x512_S64x2x512_d1) shapeCasts_S64x2x512_S128x512) (broadcast S128x512 4#8) : IVec S128x512 8))
    bitsLt_fp8e4m3_bf16

/-- A group's contribution to the block: the product of its 128 columns of codes with its unpacked rows, times the group's
    row of scales. -/
def grp (a : Vec F S256x128 .fp8e4m3) (w : Vec F S64x512 .i8) (s : Vec F S1x512 .f32) : FVec F S256x512 .f32 :=
  mulf (matmul dot_S256x128_S128x512_S256x512_1_0_0_1_n_n none (shapeCast S256x128 a shapeCasts_S256x128_S256x128)
      (unpackW w) (constant S256x512 .f32 0x00000000#32))
    (broadcastTo S256x512 s broadcasts_S1x512_S256x512)

/-! ## The three slices of a group -/

/-- Group `g`'s 128 columns of the codes. -/
abbrev rCodes (g : ℕ) (hg : g < 50) : Rect S256x6400 := Rect.unit (s := S256x6400) ![0, 128 * g] S256x128.size
  (Fin.forall_fin_two.mpr ⟨(by decide : 0 + 256 ≤ 256), show 128 * g + 128 ≤ 6400 by omega⟩)

/-- Group `g`'s 64 rows of packed bytes. -/
abbrev rBytes (g : ℕ) (hg : g < 50) : Rect S3200x512 := Rect.unit (s := S3200x512) ![64 * g, 0] S64x512.size
  (Fin.forall_fin_two.mpr ⟨show 64 * g + 64 ≤ 3200 by omega, (by decide : 0 + 512 ≤ 512)⟩)

/-- Group `g`'s row of scales. -/
abbrev rScales (g : ℕ) (hg : g < 50) : Rect S50x512 := Rect.unit (s := S50x512) ![g, 0] S1x512.size
  (Fin.forall_fin_two.mpr ⟨show g + 1 ≤ 50 by omega, (by decide : 0 + 512 ≤ 512)⟩)

/-! ## The sum over the groups -/

/-- The running sum after the first `n` groups, from zero, group by group in order. -/
def acc (x5 : Vec F S256x6400 .fp8e4m3) (x1 : Vec F S3200x512 .i8) (x2 : Vec F S50x512 .f32) : (n : ℕ) → n ≤ 50 → FVec F S256x512 .f32
  | 0, _ => broadcast S256x512 (Scalar.ofBits .f32 0x00000000#32 : F .f32)
  | n + 1, h => addf (acc x5 x1 x2 n (Nat.le_of_succ_le h))
      (grp (View.ld x5 (rCodes n h)) (View.ld x1 (rBytes n h)) (View.ld x2 (rScales n h)))

/-- The rectangles the body reads or writes whole. -/
abbrev rX : Rect S256x6400 := Rect.unit (s := S256x6400) ![0, 0] S256x6400.size inb_S256x6400_S256x6400_0_0
/-- The whole window, as the body accesses it. -/
abbrev rY : Rect S256x512 := Rect.unit (s := S256x512) ![0, 0] S256x512.size inb_S256x512_S256x512_0_0
/-- The whole window, as the body accesses it. -/
abbrev rS : Rect S256x1 := Rect.unit (s := S256x1) ![0, 0] S256x1.size inb_S256x1_S256x1_0_0
/-- The whole window, as the body accesses it. -/
abbrev rB : Rect S1x512 := Rect.unit (s := S1x512) ![0, 0] S1x512.size inb_S1x512_S1x512_0_0

/-- The stored block of the product: the sum over the fifty groups times the row's scale plus the column's bias, from the codes
    `x5`, the row scales `x6` and the blocks of packed weights `x1`, group scales `x2` and bias `x3`. -/
def yPay (x5 : Vec F S256x6400 .fp8e4m3) (x6 : Vec F S256x1 .f32) (x1 : Vec F S3200x512 .i8) (x2 : Vec F S50x512 .f32)
    (x3 : Vec F S1x512 .f32) : FVec F S256x512 .bf16 :=
  k0_pay1 (acc x5 x1 x2 49 (by decide))
    (grp (View.ld x5 (rCodes 49 (by decide))) (View.ld x1 (rBytes 49 (by decide))) (View.ld x2 (rScales 49 (by decide))))
    (View.ld x6 rS) (View.ld x3 rB)

/-- What the body leaves in the window of the product. -/
def outY (x5 : Vec F S256x6400 .fp8e4m3) (x6 : Vec F S256x1 .f32) (x1 : Vec F S3200x512 .i8) (x2 : Vec F S50x512 .f32)
    (x3 : Vec F S1x512 .f32) : Vec F S256x512 .bf16 :=
  View.canon [⟨rY, yPay x5 x6 x1 x2 x3⟩]

/-- The store covers the window. -/
theorem coverY (p : Vec F S256x512 .bf16) (y : S256x512.Idx) :
    ∃ pc ∈ ([⟨rY, p⟩] : List (View.Piece (Elt F) S256x512 .bf16)), y ∈ pc.1.set :=
  View.cover_of_tiled [⟨rY, p⟩] S256x512.size (by rfl) y

/-! ## The quantiser, from the block of activations -/

/-- The f32 whose word holds two to the power `e`, row by row. -/
def pow2 (e : IVec S256x1 32) : FVec F S256x1 .f32 :=
  bitcastToFloat .f32 (select (cmpi .sge e (broadcast S256x1 128#32)) (broadcast S256x1 2139095040#32)
    (select (cmpi .sge e (broadcast S256x1 4294967170#32))
      (shli (addi e (broadcast S256x1 127#32)) (broadcast S256x1 23#32))
      (shli (broadcast S256x1 1#32) (addi e (broadcast S256x1 149#32)) : IVec S256x1 32)) : IVec S256x1 32)

/-- One halving of the exponent search: the candidate moves up by `s` where two to the moved candidate is at most `v`. -/
def halve (v : FVec F S256x1 .f32) (k : IVec S256x1 32) (s : BitVec 32) : IVec S256x1 32 :=
  select (cmpf .oge v (pow2 (addi k (broadcast S256x1 s)))) (addi k (broadcast S256x1 s)) k

/-- The greatest `k` with two to the `k` at most `v`: the search's nine halvings from -150. -/
def search (v : FVec F S256x1 .f32) : IVec S256x1 32 :=
  halve v (halve v (halve v (halve v (halve v (halve v (halve v (halve v (halve v (broadcast S256x1 4294967146#32)
    256#32) 128#32) 64#32) 32#32) 16#32) 8#32) 4#32) 2#32) 1#32

/-- The activations as f32. -/
def xf (x0 : Vec F S256x6400 .bf16) : FVec F S256x6400 .f32 := k0_pay2 (View.ld x0 rX)

/-- The largest magnitude of each row. -/
def amax (x0 : Vec F S256x6400 .bf16) : FVec F S256x1 .f32 := k0_pay3 (View.ld x0 rX)

/-- The exponent of each row's scale. -/
def expo (x0 : Vec F S256x6400 .bf16) : IVec S256x1 32 :=
  k0_pay25 (amax x0) (search (k0_pay4 (View.ld x0 rX))) (k0_pay24 (k0_pay4 (View.ld x0 rX)))

/-- What the body leaves in the window of the scales: two to the exponent. -/
def outS (x0 : Vec F S256x6400 .bf16) : Vec F S256x1 .f32 := View.canon [⟨rS, pow2 (expo x0)⟩]

/-- What the body leaves in the window of the codes: the activations times two to the negated exponent, clipped, narrowed. -/
def outC (x0 : Vec F S256x6400 .bf16) : Vec F S256x6400 .fp8e4m3 :=
  View.canon [⟨rX, truncf .fp8e4m3 (minimumf (broadcast S256x6400 (Scalar.ofBits .f32 0x43E00000#32 : F .f32))
    (maximumf (broadcast S256x6400 (Scalar.ofBits .f32 0xC3E00000#32 : F .f32))
      (mulf (xf x0) (broadcastTo S256x6400 (pow2 (subi (broadcast S256x1 0#32) (expo x0))) broadcasts_S256x1_S256x6400))))
    bitsLt_fp8e4m3_f32⟩]

/-- The store covers the window. -/
theorem coverS (p : Vec F S256x1 .f32) (y : S256x1.Idx) :
    ∃ pc ∈ ([⟨rS, p⟩] : List (View.Piece (Elt F) S256x1 .f32)), y ∈ pc.1.set :=
  View.cover_of_tiled [⟨rS, p⟩] S256x1.size (by rfl) y

/-- The store covers the window. -/
theorem coverC (p : Vec F S256x6400 .fp8e4m3) (y : S256x6400.Idx) :
    ∃ pc ∈ ([⟨rX, p⟩] : List (View.Piece (Elt F) S256x6400 .fp8e4m3)), y ∈ pc.1.set :=
  View.cover_of_tiled [⟨rX, p⟩] S256x6400.size (by rfl) y

end Cert.Kernel.Hand

end
-- ==== Proof.PRunB.lean ====
/-
  A run of the kernel's body at a grid point after the first: it finds the codes and the scales, leaves them, and stores the block
  of the product.
  Of the kernel as written; the module of the same name with K in front says the same of its ideal form.
-/
module

public import proofs.«01_k».proof.Proof.PBody

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point after the first the body leaves the codes and the scales as it found them and the product's block at `outY`. -/
theorem bodyB (c : Dev nD) (i : grid0.Coords) (arg1 : Memref sig .tc .vmem S256x6400 .bf16) (harg1 : arg1.IsWhole) (arg2 : Memref sig .tc .vmem S3200x512 .i8) (harg2 : arg2.IsWhole) (arg3 : Memref sig .tc .vmem S50x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x6400 .fp8e4m3) (harg6 : arg6.IsWhole) (arg7 : Memref sig .tc .vmem S256x1 .f32) (harg7 : arg7.IsWhole) (hc0 : ¬cond0_0 i)
    (x0 : Vec F S256x6400 .bf16) (x1 : Vec F S3200x512 .i8) (x2 : Vec F S50x512 .f32) (x3 : Vec F S1x512 .f32)
    (x5 : Vec F S256x6400 .fp8e4m3) (x6 : Vec F S256x1 .f32) : ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outY x5 x6 x1 x2 x3) ∗ owns (c : Thread nD τ) arg6 fullShare x5 ∗ owns (c : Thread nD τ) arg7 fullShare x6) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    simp only [k0_part29_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    subst hf0 hf1 hf2 hf3 hf5 hf6
    sl_exec (disch := first | sl_exact hc0)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      refine (View.read_writes_eq_canon _ _ _ (coverY _)).trans ?_
      rfl
    isplitl [H5]
    · iexists f5; isplitr; · ipureintro; rfl
      iexact H5
    iexists f6; isplitr; · ipureintro; rfl
    iexact H6

end Cert.Kernel.Hand

end
-- ==== Proof.PRunA.lean ====
/-
  A run of the kernel's body at the first grid point: it stores the codes and the scales, reads them back, and stores the block of
  the product.
  Of the kernel as written; the module of the same name with K in front says the same of its ideal form.
-/
module

public import proofs.«01_k».proof.Proof.PRunB

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point the body leaves the codes at `outC`, the scales at `outS` and the product's block at `outY` of these. -/
theorem bodyA (c : Dev nD) (i : grid0.Coords) (arg1 : Memref sig .tc .vmem S256x6400 .bf16) (harg1 : arg1.IsWhole) (arg2 : Memref sig .tc .vmem S3200x512 .i8) (harg2 : arg2.IsWhole) (arg3 : Memref sig .tc .vmem S50x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x6400 .fp8e4m3) (harg6 : arg6.IsWhole) (arg7 : Memref sig .tc .vmem S256x1 .f32) (harg7 : arg7.IsWhole) (hc0 : cond0_0 i)
    (x0 : Vec F S256x6400 .bf16) (x1 : Vec F S3200x512 .i8) (x2 : Vec F S50x512 .f32) (x3 : Vec F S1x512 .f32) : ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outY (outC x0) (outS x0) x1 x2 x3) ∗ owns (c : Thread nD τ) arg6 fullShare (outC x0) ∗ owns (c : Thread nD τ) arg7 fullShare (outS x0)) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    simp only [k0_part29_eq_skeleton, k0_part7_eq_skeleton, k0_part1_eq_skeleton, k0_part2_eq_skeleton, k0_part3_eq_skeleton, k0_part4_eq_skeleton, k0_part5_eq_skeleton, k0_part6_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    subst hf0 hf1 hf2 hf3
    sl_exec (disch := first | sl_exact hc0)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      refine (View.read_writes_eq_canon _ _ _ (coverY _)).trans ?_
      unfold outC outS
      rw [← View.read_writes_eq_canon arg6.view arg6.view.junk _ (coverC _), ← View.read_writes_eq_canon arg7.view arg7.view.junk _ (coverS _)]
      rfl
    isplitl [H5]
    · iexists _; isplitr
      swap; · iexact H5
      ipureintro
      refine (View.read_writes_eq_canon _ _ _ (coverC _)).trans ?_
      rfl
    iexists _; isplitr
    swap; · iexact H6
    ipureintro
    refine (View.read_writes_eq_canon _ _ _ (coverS _)).trans ?_
    rfl

end Cert.Kernel.Hand

end
-- ==== Proof.PFrame.lean ====
/-
  The kernel's pipeline as proof data: what each window's buffer holds after the body at each grid point, the body's obligation
  there, and the run of the whole program. The codes and the scales are stored at the first point only and written back at the
  last; in between their buffers keep what the first point left.
  Of the kernel as written; the module of the same name with K in front says the same of its ideal form.
-/
module

public import proofs.«01_k».proof.Proof.PRunA
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The first grid point. -/
abbrev t0 : Fin cfg0.N := ⟨0, by rw [show cfg0.N = 54 from N_0]; decide⟩

/-- The block of activations is the same at every point: the whole array. -/
theorem iblk0_const (c : Dev nD) (t : Fin cfg0.N) : iblk m c 0 t = iblk m c 0 t0 := rfl

/-- The codes of the activations, and the scales of their rows. -/
def codes (c : Dev nD) : Vec F S256x6400 .fp8e4m3 := outC (iblk m c 0 t0)
/-- The scales of the activations' rows. -/
def scales (c : Dev nD) : Vec F S256x1 .f32 := outS (iblk m c 0 t0)

/-- The proof data of the one pipeline on core `c`: the arrays as the region finds them; after the body at point `t` each
    input's buffer at its block, the product's at `outY` of the blocks, the codes' and the scales' at the same values at
    every point; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outY (codes m c) (scales m c) (iblk m c 1 t) (iblk m c 2 t) (iblk m c 3 t)
    | ⟨5, _⟩ => codes m c
    | ⟨6, _⟩ => scales m c
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What the body leaves in this window's buffer. -/
theorem after0_1 (c : Dev nD) (t : Fin cfg0.N) : (dats m 0 c).after 1 t = iblk m c 1 t := by dsimp only [dats]
/-- What the body leaves in this window's buffer. -/
theorem after0_2 (c : Dev nD) (t : Fin cfg0.N) : (dats m 0 c).after 2 t = iblk m c 2 t := by dsimp only [dats]
/-- What the body leaves in this window's buffer. -/
theorem after0_3 (c : Dev nD) (t : Fin cfg0.N) : (dats m 0 c).after 3 t = iblk m c 3 t := by dsimp only [dats]

/-- What the body leaves in this window's buffer. -/
theorem after0_4 (c : Dev nD) (t : Fin cfg0.N) : (dats m 0 c).after 4 t = outY (codes m c) (scales m c) (iblk m c 1 t) (iblk m c 2 t) (iblk m c 3 t) := by dsimp only [dats]
/-- What the body leaves in this window's buffer. -/
theorem after0_5 (c : Dev nD) (t : Fin cfg0.N) : (dats m 0 c).after 5 t = codes m c := by dsimp only [dats]
/-- What the body leaves in this window's buffer. -/
theorem after0_6 (c : Dev nD) (t : Fin cfg0.N) : (dats m 0 c).after 6 t = scales m c := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What the body finds in this window's buffer: its block. -/
theorem before0_1 (c : Dev nD) (t : Fin cfg0.N) (d) : (dats m 0 c).before 1 t d = iblk m c 1 t :=
  before0_1_of m (dats m 0 c) (A_eq m c 1) (after0_1 m c) t d
/-- What the body finds in this window's buffer: its block. -/
theorem before0_2 (c : Dev nD) (t : Fin cfg0.N) (d) : (dats m 0 c).before 2 t d = iblk m c 2 t :=
  before0_2_of m (dats m 0 c) (A_eq m c 2) (after0_2 m c) t d
/-- What the body finds in this window's buffer: its block. -/
theorem before0_3 (c : Dev nD) (t : Fin cfg0.N) (d) : (dats m 0 c).before 3 t d = iblk m c 3 t :=
  before0_3_of m (dats m 0 c) (A_eq m c 3) (after0_3 m c) t d

/-- Window 4 is live at every point. -/
theorem liveAt0_4 : ∀ t : Fin cfg0.N, cfg0.idle 4 (grid0.coords t) = false := fun _ => rfl

/-- Windows 5 and 6 are live at the first point, -/
theorem live0_5 (t : Fin cfg0.N) (h : cond0_0 (grid0.coords t)) : cfg0.idle 5 (grid0.coords t) = false := by
  show (!(k0_cond1 (grid0.coords t) == 1#1)) = false
  rw [h]; rfl
/-- Window 6 is live at the first point. -/
theorem live0_6 (t : Fin cfg0.N) (h : cond0_0 (grid0.coords t)) : cfg0.idle 6 (grid0.coords t) = false := by
  show (!(k0_cond1 (grid0.coords t) == 1#1)) = false
  rw [h]; rfl

/-- and by any point after the first something has been stored in them that no write-back has taken. -/
theorem fresh0_5 : ∀ t : Fin cfg0.N, t.val ≠ 0 → cfg0.fresh 5 t.val = false := by decide +kernel
/-- By a later point window 6 holds something not yet written back. -/
theorem fresh0_6 : ∀ t : Fin cfg0.N, t.val ≠ 0 → cfg0.fresh 6 t.val = false := by decide +kernel

/-- After the first point the body finds the codes and the scales as the first point left them. -/
theorem before0_5 (c : Dev nD) (t : Fin cfg0.N) (ht : t.val ≠ 0) (d) : (dats m 0 c).before 5 t d = codes m c := by
  rw [(dats m 0 c).before_out_traj 5 rfl (fun _ _ => rfl) (fun t _ _ _ => by rw [after0_5, after0_5]) t.val t rfl d, fresh0_5 t ht,
    if_neg Bool.false_ne_true, after0_5]
/-- After the first point the body finds the scales as the first point left them. -/
theorem before0_6 (c : Dev nD) (t : Fin cfg0.N) (ht : t.val ≠ 0) (d) : (dats m 0 c).before 6 t d = scales m c := by
  rw [(dats m 0 c).before_out_traj 6 rfl (fun _ _ => rfl) (fun t _ _ _ => by rw [after0_6, after0_6]) t.val t rfl d, fresh0_6 t ht,
    if_neg Bool.false_ne_true, after0_6]

/-- So the buffer of the codes at the codes is what the obligation asks for, at any point: at a point idle for it that writes
    nothing back, it is what the body found. -/
theorem leaves0_5 (c : Dev nD) (t : Fin cfg0.N) :
    owns (c : Thread nD τ) (ms0_5 t) fullShare (codes m c) ⊢ ((dats m 0 c).leavesExact 5 t : sProp 𝕄) := by
  unfold Dat.leavesExact
  cases hi : cfg0.idle 5 (grid0.coords t)
  · rw [after0_5]
  · cases hf : (cfg0.win 5).flush t
    · have ht : t.val ≠ 0 := fun h => by
        rw [live0_5 t ((hcond0_0 t).mpr (by omega))] at hi; cases hi
      iintro H; iexists (codes m c)
      rw [before0_5 m c t ht]; iexact H
    · rw [after0_5]
/-- The buffer of the scales at the scales is what the obligation asks for. -/
theorem leaves0_6 (c : Dev nD) (t : Fin cfg0.N) :
    owns (c : Thread nD τ) (ms0_6 t) fullShare (scales m c) ⊢ ((dats m 0 c).leavesExact 6 t : sProp 𝕄) := by
  unfold Dat.leavesExact
  cases hi : cfg0.idle 6 (grid0.coords t)
  · rw [after0_6]
  · cases hf : (cfg0.win 6).flush t
    · have ht : t.val ≠ 0 := fun h => by
        rw [live0_6 t ((hcond0_0 t).mpr (by omega))] at hi; cases hi
      iintro H; iexists (scales m c)
      rw [before0_6 m c t ht]; iexact H
    · rw [after0_6]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
/-- The body at any point: the first stores the codes and the scales and computes with them; a later one finds them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hN : t.val < 54 := lt_of_lt_of_eq t.isLt (show cfg0.N = 54 from N_0)
  by_cases h0 : t.val % 54 = 0
  · iintro ⟨HΦ, Ho, ⟨%d0, H0⟩, ⟨%d1, H1⟩, ⟨%d2, H2⟩, ⟨%d3, H3⟩, ⟨%d4, H4⟩, ⟨%d5, H5⟩, ⟨%d6, H6⟩⟩
    iapply ((bodyA c (grid0.coords t) _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply (leaves0_5 m c t); iexact H5
    iapply (leaves0_6 m c t); iexact H6
  · simp only [before0_5 m c t (fun h => h0 (by omega)), before0_6 m c t (fun h => h0 (by omega))]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((bodyB c (grid0.coords t) _ _ _ _ _ _ _ _ _ _ _ _ _ _ (fun h => h0 ((hcond0_0 t).mp h)) (iblk m c 0 t) (iblk m c 1 t) (iblk m c 2 t) (iblk m c 3 t) (codes m c) (scales m c)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply (leaves0_5 m c t); iexact H5
    iapply (leaves0_6 m c t); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_Kernel`'s statement (Defs.lean) at any `F` — every argument array
    ends as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.KRuns.lean ====
/-
  Where the body of the kernel's pipeline stands at each grid point: its one branch condition in closed form, the
  windows that are live or idle there, and each window's current staging buffer as the pipeline passes it.
-/
module

public import proofs.«01_k».proof.Proof.Gen.KernelIdeal.Frame
public import proofs.«01_k».proof.Proof.Gen.KernelIdeal.Skeleton
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 54 = 0 :=
  (fun t => by
    have ht : t.val < 54 := Nat.lt_of_lt_of_eq t.isLt N_0
    have e0 : (grid0.coords t 0).val = t.val / 1 % 54 := Pipeline.Grid.coords_val t 0 (by decide) rfl
    simp only [cond0_0, k0_cond1, e0]
    word_cmp
   : ∀ t : Fin grid0.N, cond0_0 (grid0.coords t) ↔ t.val % 54 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x6400 .bf16 := win0_0.stage (cfg0.slots t 0)
/-- It is a whole buffer. -/
abbrev hs0_0 (t : Fin cfg0.N) : (ms0_0 t).IsWhole := hstage0_0 ((cfg0.slots t 0).cast nbuf0_0)
/-- The window's current staging buffer at point `t`. -/
abbrev ms0_1 (t : Fin cfg0.N) : Memref sig .tc .vmem S3200x512 .i8 := win0_1.stage (cfg0.slots t 1)
/-- It is a whole buffer. -/
abbrev hs0_1 (t : Fin cfg0.N) : (ms0_1 t).IsWhole := hstage0_1 ((cfg0.slots t 1).cast nbuf0_1)
/-- The window's current staging buffer at point `t`. -/
abbrev ms0_2 (t : Fin cfg0.N) : Memref sig .tc .vmem S50x512 .f32 := win0_2.stage (cfg0.slots t 2)
/-- It is a whole buffer. -/
abbrev hs0_2 (t : Fin cfg0.N) : (ms0_2 t).IsWhole := hstage0_2 ((cfg0.slots t 2).cast nbuf0_2)
/-- The window's current staging buffer at point `t`. -/
abbrev ms0_3 (t : Fin cfg0.N) : Memref sig .tc .vmem S1x512 .f32 := win0_3.stage (cfg0.slots t 3)
/-- It is a whole buffer. -/
abbrev hs0_3 (t : Fin cfg0.N) : (ms0_3 t).IsWhole := hstage0_3 ((cfg0.slots t 3).cast nbuf0_3)
/-- The window's current staging buffer at point `t`. -/
abbrev ms0_4 (t : Fin cfg0.N) : Memref sig .tc .vmem S256x512 .bf16 := win0_4.stage (cfg0.slots t 4)
/-- It is a whole buffer. -/
abbrev hs0_4 (t : Fin cfg0.N) : (ms0_4 t).IsWhole := hstage0_4 ((cfg0.slots t 4).cast nbuf0_4)
/-- The window's current staging buffer at point `t`. -/
abbrev ms0_5 (t : Fin cfg0.N) : Memref sig .tc .vmem S256x6400 .fp8e4m3 := win0_5.stage (cfg0.slots t 5)
/-- It is a whole buffer. -/
abbrev hs0_5 (t : Fin cfg0.N) : (ms0_5 t).IsWhole := hstage0_5 ((cfg0.slots t 5).cast nbuf0_5)
/-- The window's current staging buffer at point `t`. -/
abbrev ms0_6 (t : Fin cfg0.N) : Memref sig .tc .vmem S256x1 .f32 := win0_6.stage (cfg0.slots t 6)
/-- It is a whole buffer. -/
abbrev hs0_6 (t : Fin cfg0.N) : (ms0_6 t).IsWhole := hstage0_6 ((cfg0.slots t 6).cast nbuf0_6)

end Cert.KernelIdeal.Hand

end
-- ==== Proof.KBody.lean ====
/-
  What the kernel's body stores into the window of the product, as one sum over the fifty groups of 128 weight rows:
  one group's product (`grp`), the running sum over the groups (`acc`), and the stored block (`yPay`).
-/
module

public import proofs.«01_k».proof.Proof.KRuns

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One group of 128 rows of the weight -/

/-- A group's packed bytes, two signed 4-bit values to a byte, as rows of 8-bit float values: the low half of packed row `i`
    is row `2 * i`, the high half row `2 * i + 1`. -/
def unpackW (w : Vec F S64x512 .i8) : FVec F S128x512 .fp8e4m3 :=
  truncf .fp8e4m3 (sitofp .bf16 (shrsi (shapeCast S128x512 (concatenate S64x2x512 1
    [⟨S64x1x512, shapeCast S64x1x512 (shli w (broadcast S64x512 4#8) : IVec S64x512 8) shapeCasts_S64x512_S64x1x512⟩,
     ⟨S64x1x512, shapeCast S64x1x512 (w : IVec S64x512 8) shapeCasts_S64x512_S64x1x512⟩]
    concatenates_S64x1x512_S64x1x512_S64x2x512_d1) shapeCasts_S64x2x512_S128x512) (broadcast S128x512 4#8) : IVec S128x512 8))
    bitsLt_fp8e4m3_bf16

/-- A group's contribution to the block: the product of its 128 columns of codes with its unpacked rows, times the group's
    row of scales. -/
def grp (a : Vec F S256x128 .fp8e4m3) (w : Vec F S64x512 .i8) (s : Vec F S1x512 .f32) : FVec F S256x512 .f32 :=
  mulf (matmul dot_S256x128_S128x512_S256x512_1_0_0_1_n_n none (shapeCast S256x128 a shapeCasts_S256x128_S256x128)
      (unpackW w) (constant S256x512 .f32 0x00000000#32))
    (broadcastTo S256x512 s broadcasts_S1x512_S256x512)

/-! ## The three slices of a group -/

/-- Group `g`'s 128 columns of the codes. -/
abbrev rCodes (g : ℕ) (hg : g < 50) : Rect S256x6400 := Rect.unit (s := S256x6400) ![0, 128 * g] S256x128.size
  (Fin.forall_fin_two.mpr ⟨(by decide : 0 + 256 ≤ 256), show 128 * g + 128 ≤ 6400 by omega⟩)

/-- Group `g`'s 64 rows of packed bytes. -/
abbrev rBytes (g : ℕ) (hg : g < 50) : Rect S3200x512 := Rect.unit (s := S3200x512) ![64 * g, 0] S64x512.size
  (Fin.forall_fin_two.mpr ⟨show 64 * g + 64 ≤ 3200 by omega, (by decide : 0 + 512 ≤ 512)⟩)

/-- Group `g`'s row of scales. -/
abbrev rScales (g : ℕ) (hg : g < 50) : Rect S50x512 := Rect.unit (s := S50x512) ![g, 0] S1x512.size
  (Fin.forall_fin_two.mpr ⟨show g + 1 ≤ 50 by omega, (by decide : 0 + 512 ≤ 512)⟩)

/-! ## The sum over the groups -/

/-- The running sum after the first `n` groups, from zero, group by group in order. -/
def acc (x5 : Vec F S256x6400 .fp8e4m3) (x1 : Vec F S3200x512 .i8) (x2 : Vec F S50x512 .f32) : (n : ℕ) → n ≤ 50 → FVec F S256x512 .f32
  | 0, _ => broadcast S256x512 (Scalar.ofBits .f32 0x00000000#32 : F .f32)
  | n + 1, h => addf (acc x5 x1 x2 n (Nat.le_of_succ_le h))
      (grp (View.ld x5 (rCodes n h)) (View.ld x1 (rBytes n h)) (View.ld x2 (rScales n h)))

/-- The rectangles the body reads or writes whole. -/
abbrev rX : Rect S256x6400 := Rect.unit (s := S256x6400) ![0, 0] S256x6400.size inb_S256x6400_S256x6400_0_0
/-- The whole window, as the body accesses it. -/
abbrev rY : Rect S256x512 := Rect.unit (s := S256x512) ![0, 0] S256x512.size inb_S256x512_S256x512_0_0
/-- The whole window, as the body accesses it. -/
abbrev rS : Rect S256x1 := Rect.unit (s := S256x1) ![0, 0] S256x1.size inb_S256x1_S256x1_0_0
/-- The whole window, as the body accesses it. -/
abbrev rB : Rect S1x512 := Rect.unit (s := S1x512) ![0, 0] S1x512.size inb_S1x512_S1x512_0_0

/-- The stored block of the product: the sum over the fifty groups times the row's scale plus the column's bias, from the codes
    `x5`, the row scales `x6` and the blocks of packed weights `x1`, group scales `x2` and bias `x3`. -/
def yPay (x5 : Vec F S256x6400 .fp8e4m3) (x6 : Vec F S256x1 .f32) (x1 : Vec F S3200x512 .i8) (x2 : Vec F S50x512 .f32)
    (x3 : Vec F S1x512 .f32) : FVec F S256x512 .bf16 :=
  k0_pay1 (acc x5 x1 x2 49 (by decide))
    (grp (View.ld x5 (rCodes 49 (by decide))) (View.ld x1 (rBytes 49 (by decide))) (View.ld x2 (rScales 49 (by decide))))
    (View.ld x6 rS) (View.ld x3 rB)

/-- What the body leaves in the window of the product. -/
def outY (x5 : Vec F S256x6400 .fp8e4m3) (x6 : Vec F S256x1 .f32) (x1 : Vec F S3200x512 .i8) (x2 : Vec F S50x512 .f32)
    (x3 : Vec F S1x512 .f32) : Vec F S256x512 .bf16 :=
  View.canon [⟨rY, yPay x5 x6 x1 x2 x3⟩]

/-- The store covers the window. -/
theorem coverY (p : Vec F S256x512 .bf16) (y : S256x512.Idx) :
    ∃ pc ∈ ([⟨rY, p⟩] : List (View.Piece (Elt F) S256x512 .bf16)), y ∈ pc.1.set :=
  View.cover_of_tiled [⟨rY, p⟩] S256x512.size (by rfl) y

/-! ## The quantiser, from the block of activations -/

/-- The f32 whose word holds two to the power `e`, row by row. -/
def pow2 (e : IVec S256x1 32) : FVec F S256x1 .f32 :=
  bitcastToFloat .f32 (select (cmpi .sge e (broadcast S256x1 128#32)) (broadcast S256x1 2139095040#32)
    (select (cmpi .sge e (broadcast S256x1 4294967170#32))
      (shli (addi e (broadcast S256x1 127#32)) (broadcast S256x1 23#32))
      (shli (broadcast S256x1 1#32) (addi e (broadcast S256x1 149#32)) : IVec S256x1 32)) : IVec S256x1 32)

/-- One halving of the exponent search: the candidate moves up by `s` where two to the moved candidate is at most `v`. -/
def halve (v : FVec F S256x1 .f32) (k : IVec S256x1 32) (s : BitVec 32) : IVec S256x1 32 :=
  select (cmpf .oge v (pow2 (addi k (broadcast S256x1 s)))) (addi k (broadcast S256x1 s)) k

/-- The greatest `k` with two to the `k` at most `v`: the search's nine halvings from -150. -/
def search (v : FVec F S256x1 .f32) : IVec S256x1 32 :=
  halve v (halve v (halve v (halve v (halve v (halve v (halve v (halve v (halve v (broadcast S256x1 4294967146#32)
    256#32) 128#32) 64#32) 32#32) 16#32) 8#32) 4#32) 2#32) 1#32

/-- The activations as f32. -/
def xf (x0 : Vec F S256x6400 .bf16) : FVec F S256x6400 .f32 := k0_pay2 (View.ld x0 rX)

/-- The largest magnitude of each row. -/
def amax (x0 : Vec F S256x6400 .bf16) : FVec F S256x1 .f32 := k0_pay3 (View.ld x0 rX)

/-- The exponent of each row's scale. -/
def expo (x0 : Vec F S256x6400 .bf16) : IVec S256x1 32 :=
  k0_pay25 (amax x0) (search (k0_pay4 (View.ld x0 rX))) (k0_pay24 (k0_pay4 (View.ld x0 rX)))

/-- What the body leaves in the window of the scales: two to the exponent. -/
def outS (x0 : Vec F S256x6400 .bf16) : Vec F S256x1 .f32 := View.canon [⟨rS, pow2 (expo x0)⟩]

/-- What the body leaves in the window of the codes: the activations times two to the negated exponent, clipped, narrowed. -/
def outC (x0 : Vec F S256x6400 .bf16) : Vec F S256x6400 .fp8e4m3 :=
  View.canon [⟨rX, truncf .fp8e4m3 (minimumf (broadcast S256x6400 (Scalar.ofBits .f32 0x43E00000#32 : F .f32))
    (maximumf (broadcast S256x6400 (Scalar.ofBits .f32 0xC3E00000#32 : F .f32))
      (mulf (xf x0) (broadcastTo S256x6400 (pow2 (subi (broadcast S256x1 0#32) (expo x0))) broadcasts_S256x1_S256x6400))))
    bitsLt_fp8e4m3_f32⟩]

/-- The store covers the window. -/
theorem coverS (p : Vec F S256x1 .f32) (y : S256x1.Idx) :
    ∃ pc ∈ ([⟨rS, p⟩] : List (View.Piece (Elt F) S256x1 .f32)), y ∈ pc.1.set :=
  View.cover_of_tiled [⟨rS, p⟩] S256x1.size (by rfl) y

/-- The store covers the window. -/
theorem coverC (p : Vec F S256x6400 .fp8e4m3) (y : S256x6400.Idx) :
    ∃ pc ∈ ([⟨rX, p⟩] : List (View.Piece (Elt F) S256x6400 .fp8e4m3)), y ∈ pc.1.set :=
  View.cover_of_tiled [⟨rX, p⟩] S256x6400.size (by rfl) y

end Cert.KernelIdeal.Hand

end
-- ==== Proof.KRunB.lean ====
/-
  A run of the kernel's body at a grid point after the first: it finds the codes and the scales, leaves them, and stores the block
  of the product.
-/
module

public import proofs.«01_k».proof.Proof.KBody

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point after the first the body leaves the codes and the scales as it found them and the product's block at `outY`. -/
theorem bodyB (c : Dev nD) (i : grid0.Coords) (arg1 : Memref sig .tc .vmem S256x6400 .bf16) (harg1 : arg1.IsWhole) (arg2 : Memref sig .tc .vmem S3200x512 .i8) (harg2 : arg2.IsWhole) (arg3 : Memref sig .tc .vmem S50x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x6400 .fp8e4m3) (harg6 : arg6.IsWhole) (arg7 : Memref sig .tc .vmem S256x1 .f32) (harg7 : arg7.IsWhole) (hc0 : ¬cond0_0 i)
    (x0 : Vec F S256x6400 .bf16) (x1 : Vec F S3200x512 .i8) (x2 : Vec F S50x512 .f32) (x3 : Vec F S1x512 .f32)
    (x5 : Vec F S256x6400 .fp8e4m3) (x6 : Vec F S256x1 .f32) : ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outY x5 x6 x1 x2 x3) ∗ owns (c : Thread nD τ) arg6 fullShare x5 ∗ owns (c : Thread nD τ) arg7 fullShare x6) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    simp only [k0_part29_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    subst hf0 hf1 hf2 hf3 hf5 hf6
    sl_exec (disch := first | sl_exact hc0)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      refine (View.read_writes_eq_canon _ _ _ (coverY _)).trans ?_
      rfl
    isplitl [H5]
    · iexists f5; isplitr; · ipureintro; rfl
      iexact H5
    iexists f6; isplitr; · ipureintro; rfl
    iexact H6

end Cert.KernelIdeal.Hand

end
-- ==== Proof.KRunA.lean ====
/-
  A run of the kernel's body at the first grid point: it stores the codes and the scales, reads them back, and stores the block of
  the product.
-/
module

public import proofs.«01_k».proof.Proof.KRunB

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point the body leaves the codes at `outC`, the scales at `outS` and the product's block at `outY` of these. -/
theorem bodyA (c : Dev nD) (i : grid0.Coords) (arg1 : Memref sig .tc .vmem S256x6400 .bf16) (harg1 : arg1.IsWhole) (arg2 : Memref sig .tc .vmem S3200x512 .i8) (harg2 : arg2.IsWhole) (arg3 : Memref sig .tc .vmem S50x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x6400 .fp8e4m3) (harg6 : arg6.IsWhole) (arg7 : Memref sig .tc .vmem S256x1 .f32) (harg7 : arg7.IsWhole) (hc0 : cond0_0 i)
    (x0 : Vec F S256x6400 .bf16) (x1 : Vec F S3200x512 .i8) (x2 : Vec F S50x512 .f32) (x3 : Vec F S1x512 .f32) : ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outY (outC x0) (outS x0) x1 x2 x3) ∗ owns (c : Thread nD τ) arg6 fullShare (outC x0) ∗ owns (c : Thread nD τ) arg7 fullShare (outS x0)) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    simp only [k0_part29_eq_skeleton, k0_part7_eq_skeleton, k0_part1_eq_skeleton, k0_part2_eq_skeleton, k0_part3_eq_skeleton, k0_part4_eq_skeleton, k0_part5_eq_skeleton, k0_part6_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    subst hf0 hf1 hf2 hf3
    sl_exec (disch := first | sl_exact hc0)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      refine (View.read_writes_eq_canon _ _ _ (coverY _)).trans ?_
      unfold outC outS
      rw [← View.read_writes_eq_canon arg6.view arg6.view.junk _ (coverC _), ← View.read_writes_eq_canon arg7.view arg7.view.junk _ (coverS _)]
      rfl
    isplitl [H5]
    · iexists _; isplitr
      swap; · iexact H5
      ipureintro
      refine (View.read_writes_eq_canon _ _ _ (coverC _)).trans ?_
      rfl
    iexists _; isplitr
    swap; · iexact H6
    ipureintro
    refine (View.read_writes_eq_canon _ _ _ (coverS _)).trans ?_
    rfl

end Cert.KernelIdeal.Hand

end
-- ==== Proof.KFrame.lean ====
/-
  The kernel's pipeline as proof data: what each window's buffer holds after the body at each grid point, the body's obligation
  there, and the run of the whole program. The codes and the scales are stored at the first point only and written back at the
  last; in between their buffers keep what the first point left.
-/
module

public import proofs.«01_k».proof.Proof.KRunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The first grid point. -/
abbrev t0 : Fin cfg0.N := ⟨0, by rw [show cfg0.N = 54 from N_0]; decide⟩

/-- The block of activations is the same at every point: the whole array. -/
theorem iblk0_const (c : Dev nD) (t : Fin cfg0.N) : iblk m c 0 t = iblk m c 0 t0 := rfl

/-- The codes of the activations, and the scales of their rows. -/
def codes (c : Dev nD) : Vec F S256x6400 .fp8e4m3 := outC (iblk m c 0 t0)
/-- The scales of the activations' rows. -/
def scales (c : Dev nD) : Vec F S256x1 .f32 := outS (iblk m c 0 t0)

/-- The proof data of the one pipeline on core `c`: the arrays as the region finds them; after the body at point `t` each
    input's buffer at its block, the product's at `outY` of the blocks, the codes' and the scales' at the same values at
    every point; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outY (codes m c) (scales m c) (iblk m c 1 t) (iblk m c 2 t) (iblk m c 3 t)
    | ⟨5, _⟩ => codes m c
    | ⟨6, _⟩ => scales m c
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What the body leaves in this window's buffer. -/
theorem after0_1 (c : Dev nD) (t : Fin cfg0.N) : (dats m 0 c).after 1 t = iblk m c 1 t := by dsimp only [dats]
/-- What the body leaves in this window's buffer. -/
theorem after0_2 (c : Dev nD) (t : Fin cfg0.N) : (dats m 0 c).after 2 t = iblk m c 2 t := by dsimp only [dats]
/-- What the body leaves in this window's buffer. -/
theorem after0_3 (c : Dev nD) (t : Fin cfg0.N) : (dats m 0 c).after 3 t = iblk m c 3 t := by dsimp only [dats]

/-- What the body leaves in this window's buffer. -/
theorem after0_4 (c : Dev nD) (t : Fin cfg0.N) : (dats m 0 c).after 4 t = outY (codes m c) (scales m c) (iblk m c 1 t) (iblk m c 2 t) (iblk m c 3 t) := by dsimp only [dats]
/-- What the body leaves in this window's buffer. -/
theorem after0_5 (c : Dev nD) (t : Fin cfg0.N) : (dats m 0 c).after 5 t = codes m c := by dsimp only [dats]
/-- What the body leaves in this window's buffer. -/
theorem after0_6 (c : Dev nD) (t : Fin cfg0.N) : (dats m 0 c).after 6 t = scales m c := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What the body finds in this window's buffer: its block. -/
theorem before0_1 (c : Dev nD) (t : Fin cfg0.N) (d) : (dats m 0 c).before 1 t d = iblk m c 1 t :=
  before0_1_of m (dats m 0 c) (A_eq m c 1) (after0_1 m c) t d
/-- What the body finds in this window's buffer: its block. -/
theorem before0_2 (c : Dev nD) (t : Fin cfg0.N) (d) : (dats m 0 c).before 2 t d = iblk m c 2 t :=
  before0_2_of m (dats m 0 c) (A_eq m c 2) (after0_2 m c) t d
/-- What the body finds in this window's buffer: its block. -/
theorem before0_3 (c : Dev nD) (t : Fin cfg0.N) (d) : (dats m 0 c).before 3 t d = iblk m c 3 t :=
  before0_3_of m (dats m 0 c) (A_eq m c 3) (after0_3 m c) t d

/-- Window 4 is live at every point. -/
theorem liveAt0_4 : ∀ t : Fin cfg0.N, cfg0.idle 4 (grid0.coords t) = false := fun _ => rfl

/-- Windows 5 and 6 are live at the first point, -/
theorem live0_5 (t : Fin cfg0.N) (h : cond0_0 (grid0.coords t)) : cfg0.idle 5 (grid0.coords t) = false := by
  show (!(k0_cond1 (grid0.coords t) == 1#1)) = false
  rw [h]; rfl
/-- Window 6 is live at the first point. -/
theorem live0_6 (t : Fin cfg0.N) (h : cond0_0 (grid0.coords t)) : cfg0.idle 6 (grid0.coords t) = false := by
  show (!(k0_cond1 (grid0.coords t) == 1#1)) = false
  rw [h]; rfl

/-- and by any point after the first something has been stored in them that no write-back has taken. -/
theorem fresh0_5 : ∀ t : Fin cfg0.N, t.val ≠ 0 → cfg0.fresh 5 t.val = false := by decide +kernel
/-- By a later point window 6 holds something not yet written back. -/
theorem fresh0_6 : ∀ t : Fin cfg0.N, t.val ≠ 0 → cfg0.fresh 6 t.val = false := by decide +kernel

/-- After the first point the body finds the codes and the scales as the first point left them. -/
theorem before0_5 (c : Dev nD) (t : Fin cfg0.N) (ht : t.val ≠ 0) (d) : (dats m 0 c).before 5 t d = codes m c := by
  rw [(dats m 0 c).before_out_traj 5 rfl (fun _ _ => rfl) (fun t _ _ _ => by rw [after0_5, after0_5]) t.val t rfl d, fresh0_5 t ht,
    if_neg Bool.false_ne_true, after0_5]
/-- After the first point the body finds the scales as the first point left them. -/
theorem before0_6 (c : Dev nD) (t : Fin cfg0.N) (ht : t.val ≠ 0) (d) : (dats m 0 c).before 6 t d = scales m c := by
  rw [(dats m 0 c).before_out_traj 6 rfl (fun _ _ => rfl) (fun t _ _ _ => by rw [after0_6, after0_6]) t.val t rfl d, fresh0_6 t ht,
    if_neg Bool.false_ne_true, after0_6]

/-- So the buffer of the codes at the codes is what the obligation asks for, at any point: at a point idle for it that writes
    nothing back, it is what the body found. -/
theorem leaves0_5 (c : Dev nD) (t : Fin cfg0.N) :
    owns (c : Thread nD τ) (ms0_5 t) fullShare (codes m c) ⊢ ((dats m 0 c).leavesExact 5 t : sProp 𝕄) := by
  unfold Dat.leavesExact
  cases hi : cfg0.idle 5 (grid0.coords t)
  · rw [after0_5]
  · cases hf : (cfg0.win 5).flush t
    · have ht : t.val ≠ 0 := fun h => by
        rw [live0_5 t ((hcond0_0 t).mpr (by omega))] at hi; cases hi
      iintro H; iexists (codes m c)
      rw [before0_5 m c t ht]; iexact H
    · rw [after0_5]
/-- The buffer of the scales at the scales is what the obligation asks for. -/
theorem leaves0_6 (c : Dev nD) (t : Fin cfg0.N) :
    owns (c : Thread nD τ) (ms0_6 t) fullShare (scales m c) ⊢ ((dats m 0 c).leavesExact 6 t : sProp 𝕄) := by
  unfold Dat.leavesExact
  cases hi : cfg0.idle 6 (grid0.coords t)
  · rw [after0_6]
  · cases hf : (cfg0.win 6).flush t
    · have ht : t.val ≠ 0 := fun h => by
        rw [live0_6 t ((hcond0_0 t).mpr (by omega))] at hi; cases hi
      iintro H; iexists (scales m c)
      rw [before0_6 m c t ht]; iexact H
    · rw [after0_6]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
/-- The body at any point: the first stores the codes and the scales and computes with them; a later one finds them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hN : t.val < 54 := lt_of_lt_of_eq t.isLt (show cfg0.N = 54 from N_0)
  by_cases h0 : t.val % 54 = 0
  · iintro ⟨HΦ, Ho, ⟨%d0, H0⟩, ⟨%d1, H1⟩, ⟨%d2, H2⟩, ⟨%d3, H3⟩, ⟨%d4, H4⟩, ⟨%d5, H5⟩, ⟨%d6, H6⟩⟩
    iapply ((bodyA c (grid0.coords t) _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply (leaves0_5 m c t); iexact H5
    iapply (leaves0_6 m c t); iexact H6
  · simp only [before0_5 m c t (fun h => h0 (by omega)), before0_6 m c t (fun h => h0 (by omega))]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((bodyB c (grid0.coords t) _ _ _ _ _ _ _ _ _ _ _ _ _ _ (fun h => h0 ((hcond0_0 t).mp h)) (iblk m c 0 t) (iblk m c 1 t) (iblk m c 2 t) (iblk m c 3 t) (codes m c) (scales m c)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply (leaves0_5 m c t); iexact H5
    iapply (leaves0_6 m c t); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — every argument array
    ends as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.Weights.lean ====
/-
  The packed weights at an index: row `k` of an unpacked matrix is a half of packed row `k / 2`, the low half where `k` is even,
  as a signed 4-bit number.
-/
module

public import Idealize.ShloMosaic.PureOps.Ideal.Laws
public import Idealize.ShloMosaic.Lib.ValueIdx
public import Idealize.ShloMosaic.Lib.Pipeline.Value
public import Idealize.ShloMosaic.Lib.Pointwise.Reshape

@[expose] public section

noncomputable section

namespace Cert.Quant

open Idealize.ShloMosaic hiding ix2 ix3
open Idealize.ShloMosaic.ValueIdx

/-- The low half of a byte as a signed number: shifted up by four and back down, the sign extended. -/
def lo (b : BitVec 8) : BitVec 8 := IntOp.shrsi .vector (IntOp.shli .vector b 4#8) 4#8

/-- The high half of a byte as a signed number: shifted down by four, the sign extended. -/
def hi (b : BitVec 8) : BitVec 8 := IntOp.shrsi .vector b 4#8

/-- The half of a byte that row `k` of the unpacked matrix takes, as an extended real. -/
def half (b : BitVec 8) (k : ℕ) : EReal := FloatOps.sitofp (F := Ideal) .bf16 (if k % 2 = 0 then lo b else hi b)

/-- The low four bits with the sign bit flipped, less eight, are the low half signed. -/
theorem lo_eq (b : BitVec 8) :
    IntOp.subi ((IntOp.xori (IntOp.andi (b.setWidth 32) 15#32) 8#32).setWidth 8) 8#8 = lo b := by
  have h : ∀ n : Fin 256, IntOp.subi ((IntOp.xori (IntOp.andi ((BitVec.ofFin (w := 8) n).setWidth 32) 15#32) 8#32).setWidth 8) 8#8
      = lo (BitVec.ofFin (w := 8) n) := by decide +kernel
  exact h b.toFin

/-- The high four bits with the sign bit flipped, less eight, are the high half signed. -/
theorem hi_eq (b : BitVec 8) :
    IntOp.subi ((IntOp.xori (IntOp.andi (IntOp.shrsi .vector (b.setWidth 32) 4#32) 15#32) 8#32).setWidth 8) 8#8 = hi b := by
  have h : ∀ n : Fin 256, IntOp.subi ((IntOp.xori (IntOp.andi (IntOp.shrsi .vector ((BitVec.ofFin (w := 8) n).setWidth 32) 4#32) 15#32)
      8#32).setWidth 8) 8#8 = hi (BitVec.ofFin (w := 8) n) := by decide +kernel
  exact h b.toFin

/-- Two matrices of `n` rows interleaved row by row: row `k` of the result is row `k / 2` of the first where `k` is even, of
    the second where it is odd. -/
theorem interleave_apply {α : Type} {n n2 C : ℕ} (A B : (⟨2, ![n, C]⟩ : Shape).Idx → α)
    (h1 : (⟨2, ![n, C]⟩ : Shape).ShapeCasts ⟨3, ![n, 1, C]⟩)
    (hc : Shape.Concatenates [(⟨3, ![n, 1, C]⟩ : Shape), ⟨3, ![n, 1, C]⟩] ⟨3, ![n, 2, C]⟩ 1)
    (h2 : (⟨3, ![n, 2, C]⟩ : Shape).ShapeCasts ⟨2, ![n2, C]⟩) (k : Fin n2) (c : Fin C) (i : Fin n) (hi : i.val = k.val / 2) :
    shapeCast ⟨2, ![n2, C]⟩ (concatenate ⟨3, ![n, 2, C]⟩ 1 [⟨⟨3, ![n, 1, C]⟩, shapeCast ⟨3, ![n, 1, C]⟩ A h1⟩,
      ⟨⟨3, ![n, 1, C]⟩, shapeCast ⟨3, ![n, 1, C]⟩ B h1⟩] hc) h2 (ix2 k c)
      = if k.val % 2 = 0 then A (ix2 i c) else B (ix2 i c) := by
  have hk := Nat.div_add_mod k.val 2
  rw [shapeCast_apply _ h2 (ix2 k c) (ix3 i (⟨k.val % 2, Nat.mod_lt _ (by norm_num)⟩ : Fin 2) c) (by
    rw [rowMajor_val3 _ (2 * C) C rfl rfl, rowMajor_val2 _ C rfl]
    show i.val * (2 * C) + k.val % 2 * C + c.val = k.val * C + c.val
    rw [hi]
    conv_rhs => rw [← hk]
    ring)]
  have hrow : ∀ X : (⟨2, ![n, C]⟩ : Shape).Idx → α, shapeCast ⟨3, ![n, 1, C]⟩ X h1 (ix3 i (0 : Fin 1) c) = X (ix2 i c) := fun X =>
    shapeCast_apply X h1 _ _ (by
      rw [rowMajor_val2 _ C rfl, rowMajor_val3 _ (1 * C) C rfl rfl]
      show i.val * C + c.val = i.val * (1 * C) + 0 * C + c.val
      ring)
  by_cases he : k.val % 2 = 0
  · rw [if_pos he, concatenate_pair_apply_left 1 _ _ hc _ rfl (ix3 i (0 : Fin 1) c) (by
      intro b
      match b with
      | ⟨0, _⟩ => rfl
      | ⟨1, _⟩ => exact he.symm
      | ⟨2, _⟩ => rfl), hrow]
  · have ho : k.val % 2 = 1 := by omega
    rw [if_neg he, concatenate_pair_apply_right 1 _ _ hc
      (ix3 i (⟨k.val % 2, Nat.mod_lt _ (by norm_num)⟩ : Fin 2) c) rfl rfl (ix3 i (0 : Fin 1) c) (by
      intro b hb
      match b with
      | ⟨0, _⟩ => rfl
      | ⟨1, _⟩ => exact absurd rfl hb
      | ⟨2, _⟩ => rfl) (show 0 + 1 = k.val % 2 by omega), hrow]

end Cert.Quant

end
-- ==== Proof.KValue.lean ====
/-
  What one block of the product holds, entry by entry: the sum over the fifty groups of the group's product of codes with
  unpacked weights times the group's scale, times the row's scale, plus the column's bias.
-/
module

public import proofs.«01_k».proof.Proof.KBody
public import proofs.«01_k».proof.Proof.Weights
public import Idealize.ShloMosaic.Lib.MatmulPlain
public import Idealize.ShloMosaic.Lib.Pipeline.ValueKit.Tiles

@[expose] public section

set_option maxRecDepth 16384

noncomputable section

namespace Cert.Quant

open Idealize.ShloMosaic hiding ix2 ix3
open Idealize.ShloMosaic.ValueIdx

/-- The product at row `r` and column `c`, from the codes `C`, the row scales `S`, and the packed weights `W`, group scales `G`
    and bias `B` of `N` columns. -/
def prod {N : ℕ} (C : (⟨2, ![256, 6400]⟩ : Shape).Idx → EReal) (S : (⟨2, ![256, 1]⟩ : Shape).Idx → EReal)
    (W : (⟨2, ![3200, N]⟩ : Shape).Idx → BitVec 8) (G : (⟨2, ![50, N]⟩ : Shape).Idx → EReal)
    (B : (⟨2, ![1, N]⟩ : Shape).Idx → EReal) (r : Fin 256) (c : Fin N) : EReal :=
  (∑ g : Fin 50, (∑ k : Fin 128, C (ix2 r (⟨128 * g.val + k.val, by omega⟩ : Fin 6400))
      * half (W (ix2 (⟨64 * g.val + k.val / 2, by omega⟩ : Fin 3200) c)) k.val) * G (ix2 g c))
    * S (ix2 r (0 : Fin 1)) + B (ix2 (0 : Fin 1) c)

end Cert.Quant

namespace Cert.KernelIdeal.Hand

open Cert.KernelIdeal.Gen Cert.Quant
open Idealize.ShloMosaic hiding ix2 ix3
open Idealize.ShloMosaic.ValueIdx

/-- A group's unpacked weights at an index. -/
theorem unpackW_apply (w : Vec Ideal S64x512 .i8) (k : Fin 128) (c : Fin 512) :
    unpackW w (ix2 k c) = half (w (ix2 (⟨k.val / 2, by omega⟩ : Fin 64) c)) k.val := by
  unfold unpackW half
  rw [truncf_apply, sitofp_apply]
  unfold shrsi
  rw [interleave_apply _ _ _ _ _ k c ⟨k.val / 2, by omega⟩ rfl, broadcast_apply]
  by_cases he : k.val % 2 = 0
  · rw [if_pos he, if_pos he]; rfl
  · rw [if_neg he, if_neg he]; rfl

/-- A group's contribution at an index. -/
theorem grp_apply (a : Vec Ideal S256x128 .fp8e4m3) (w : Vec Ideal S64x512 .i8) (s : Vec Ideal S1x512 .f32) (r : Fin 256) (c : Fin 512) :
    grp a w s (ix2 r c)
      = (∑ k : Fin 128, a (ix2 r k) * half (w (ix2 (⟨k.val / 2, by omega⟩ : Fin 64) c)) k.val) * s (ix2 (0 : Fin 1) c) := by
  unfold grp
  rw [mulf_apply, broadcastTo_apply s broadcasts_S1x512_S256x512 (ix2 r c) (ix2 (0 : Fin 1) c) (by
      intro b
      match b with
      | ⟨0, _⟩ => rfl
      | ⟨1, _⟩ => rfl),
    show dot_S256x128_S128x512_S256x512_1_0_0_1_n_n = DotDims.plain 256 128 512 from rfl,
    show ∀ (x : FVec Ideal S256x128 .fp8e4m3) (y : FVec Ideal S128x512 .fp8e4m3) (z : FVec Ideal S256x512 .f32),
      matmul (DotDims.plain 256 128 512) none x y z = FloatOps.matmul (DotDims.plain 256 128 512) none x y z from fun _ _ _ => rfl,
    Ideal.matmul_plain_apply, constant_apply, Ideal.ofBits_zero_f32, zero_add, shapeCast_self]
  simp only [unpackW_apply]

/-- A group's contribution, its slices read out of the codes and the blocks. -/
theorem grp_ld (x5 : Vec Ideal S256x6400 .fp8e4m3) (x1 : Vec Ideal S3200x512 .i8) (x2 : Vec Ideal S50x512 .f32) (g : ℕ) (hg : g < 50)
    (r : Fin 256) (c : Fin 512) :
    grp (View.ld x5 (rCodes g hg)) (View.ld x1 (rBytes g hg)) (View.ld x2 (rScales g hg)) (ix2 r c)
      = (∑ k : Fin 128, x5 (ix2 r (⟨128 * g + k.val, by omega⟩ : Fin 6400))
          * half (x1 (ix2 (⟨64 * g + k.val / 2, by omega⟩ : Fin 3200) c)) k.val) * x2 (ix2 (⟨g, hg⟩ : Fin 50) c) := by
  rw [grp_apply]
  have h5 : ∀ k : Fin 128, View.ld x5 (rCodes g hg) (ix2 r k) = x5 (ix2 r (⟨128 * g + k.val, by omega⟩ : Fin 6400)) := fun k =>
    View.ld_unit_apply_of x5 _ _ _ _ _ (by
      intro a
      match a with
      | ⟨0, _⟩ => exact (Nat.zero_add _).symm
      | ⟨1, _⟩ => rfl)
  have h1 : ∀ k : Fin 128, View.ld x1 (rBytes g hg) (ix2 (⟨k.val / 2, by omega⟩ : Fin 64) c)
      = x1 (ix2 (⟨64 * g + k.val / 2, by omega⟩ : Fin 3200) c) := fun k =>
    View.ld_unit_apply_of x1 _ _ _ _ _ (by
      intro a
      match a with
      | ⟨0, _⟩ => rfl
      | ⟨1, _⟩ => exact (Nat.zero_add _).symm)
  have h2 : View.ld x2 (rScales g hg) (ix2 (0 : Fin 1) c) = x2 (ix2 (⟨g, hg⟩ : Fin 50) c) :=
    View.ld_unit_apply_of x2 _ _ _ _ _ (by
      intro a
      match a with
      | ⟨0, _⟩ => rfl
      | ⟨1, _⟩ => exact (Nat.zero_add _).symm)
  simp only [h5, h1, h2]

/-- The running sum at an index is the sum of the groups' contributions so far. -/
theorem acc_apply (x5 : Vec Ideal S256x6400 .fp8e4m3) (x1 : Vec Ideal S3200x512 .i8) (x2 : Vec Ideal S50x512 .f32)
    (r : Fin 256) (c : Fin 512) (n : ℕ) (hn : n ≤ 50) :
    acc x5 x1 x2 n hn (ix2 r c) = ∑ g : Fin n, grp (View.ld x5 (rCodes g.val (by omega))) (View.ld x1 (rBytes g.val (by omega)))
      (View.ld x2 (rScales g.val (by omega))) (ix2 r c) := by
  induction n with
  | zero =>
    rw [Fin.sum_univ_zero]
    exact Ideal.ofBits_zero_f32
  | succ n ih =>
    rw [Fin.sum_univ_castSucc]
    unfold acc
    rw [addf_apply, ih]
    rfl

/-- The stored block at an index. -/
theorem outY_apply (x5 : Vec Ideal S256x6400 .fp8e4m3) (x6 : Vec Ideal S256x1 .f32) (x1 : Vec Ideal S3200x512 .i8)
    (x2 : Vec Ideal S50x512 .f32) (x3 : Vec Ideal S1x512 .f32) (r : Fin 256) (c : Fin 512) :
    outY x5 x6 x1 x2 x3 (ix2 r c) = prod x5 x6 x1 x2 x3 r c := by
  have h00 : (![0, 0] : Fin 2 → ℕ) = fun _ => 0 := by funext a; fin_cases a <;> rfl
  unfold outY
  rw [View.canon_unit_zero (S := S256x512) h00]
  unfold yPay k0_pay1
  rw [truncf_apply, addf_apply, mulf_apply]
  have hacc : addf (acc x5 x1 x2 49 (by decide))
      (grp (View.ld x5 (rCodes 49 (by decide))) (View.ld x1 (rBytes 49 (by decide))) (View.ld x2 (rScales 49 (by decide))))
      = acc x5 x1 x2 50 (by decide) := rfl
  rw [hacc, acc_apply,
    broadcastTo_apply _ broadcasts_S256x1_S256x512 (ix2 r c) (ix2 r (0 : Fin 1)) (by
      intro b
      match b with
      | ⟨0, _⟩ => rfl
      | ⟨1, _⟩ => rfl),
    broadcastTo_apply _ broadcasts_S1x512_S256x512 (ix2 r c) (ix2 (0 : Fin 1) c) (by
      intro b
      match b with
      | ⟨0, _⟩ => rfl
      | ⟨1, _⟩ => rfl),
    shapeCast_self, shapeCast_self, View.ld_unit_zero (S := S256x1) h00, View.ld_unit_zero (S := S1x512) h00]
  unfold prod
  simp only [grp_ld]

end Cert.KernelIdeal.Hand

end
-- ==== Proof.KArr.lean ====
/-
  What the kernel's three result arrays hold after the run, each as one function of the argument arrays: the product block by
  block, the codes and the scales from their one write-back.
-/
module

public import proofs.«01_k».proof.Proof.KFrame
public import proofs.«01_k».proof.Proof.KValue
public import Idealize.ShloMosaic.Lib.Pipeline.Value
public import Idealize.ShloMosaic.Lib.StableHlo.Run

@[expose] public section

set_option maxRecDepth 16384

noncomputable section

namespace Cert.Quant

open Idealize.ShloMosaic hiding ix2 ix3
open Idealize.ShloMosaic.ValueIdx

/-- The product reads the weights, the group scales and the bias at its own column only. -/
theorem prod_congr {N N' : ℕ} (C : FVec Ideal ⟨2, ![256, 6400]⟩ .fp8e4m3) (S : FVec Ideal ⟨2, ![256, 1]⟩ .f32)
    (W : IVec ⟨2, ![3200, N]⟩ 8) (G : FVec Ideal ⟨2, ![50, N]⟩ .f32) (B : FVec Ideal ⟨2, ![1, N]⟩ .f32)
    (W' : IVec ⟨2, ![3200, N']⟩ 8) (G' : FVec Ideal ⟨2, ![50, N']⟩ .f32) (B' : FVec Ideal ⟨2, ![1, N']⟩ .f32)
    (r : Fin 256) (c : Fin N) (c' : Fin N') (hW : ∀ k, W (ix2 k c) = W' (ix2 k c')) (hG : ∀ k, G (ix2 k c) = G' (ix2 k c'))
    (hB : B (ix2 0 c) = B' (ix2 0 c')) : prod C S W G B r c = prod C S W' G' B' r c' := by
  unfold prod
  simp only [hW, hG, hB]

end Cert.Quant

namespace Cert.KernelIdeal.Hand

open Cert.KernelIdeal.Gen Cert.Quant
open Idealize.ShloMosaic hiding ix2 ix3
open Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-! ## The arrays the region finds -/

/-- The activations as a matrix: the first argument, its unit axis dropped. -/
def xs (c : Dev nD) : Vec Ideal S256x6400 .bf16 :=
  shapeCast S256x6400 (m ((c : Thread nD τ).loc main_arg0)) shapeCasts_S256x1x6400_S256x6400

/-- The bias as a row: the last argument with a unit axis in front. -/
def bias (c : Dev nD) : Vec Ideal S1x27648 .f32 :=
  shapeCast S1x27648 (m ((c : Thread nD τ).loc main_arg3)) shapeCasts_S27648_S1x27648

/-- The region finds the activations reshaped. -/
theorem V_main_v0 (c : Dev nD) : V m c main_v0 = xs m c := by
  show StableHlo.after hostOps0 (fun b => m (c, b)) main_v0 = _
  after_results
  rfl

/-- The region finds the bias reshaped. -/
theorem V_main_v1 (c : Dev nD) : V m c main_v1 = bias m c := by
  show StableHlo.after hostOps0 (fun b => m (c, b)) main_v1 = _
  after_results
  rfl

/-! ## The blocks as parts of the arrays -/

/-- Windows 1 to 4 move along the columns with the grid; the others stay. -/
theorem idx_facts : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, 0] ∧ win0_6.index t = ![0, 0] :=
  (by decide +kernel : ∀ t : Fin grid0.N, win0_0.index t = ![0, 0] ∧ win0_1.index t = ![0, t.val] ∧ win0_2.index t = ![0, t.val]
    ∧ win0_3.index t = ![0, t.val] ∧ win0_4.index t = ![0, t.val] ∧ win0_5.index t = ![0, 0] ∧ win0_6.index t = ![0, 0])

/-- The column of the whole arrays that column `j` of the blocks at point `t` is. -/
def col (t : Fin cfg0.N) (j : Fin 512) : Fin 27648 :=
  ⟨512 * t.val + j.val, by
    have : t.val < 54 := lt_of_lt_of_eq t.isLt (show cfg0.N = 54 from N_0)
    omega⟩

/-- A block of packed weights at an index is the array at the block's column. -/
theorem iblk1_apply (c : Dev nD) (t : Fin cfg0.N) (k : Fin 3200) (j : Fin 512) :
    (iblk m c 1 t : Vec Ideal S3200x512 .i8) (ix2 k j) = m ((c : Thread nD τ).loc main_arg1) (ix2 k (col t j)) := by
  have h := (idx_facts t).2.1
  unfold iblk
  rw [View.read_apply]
  show V m c main_arg1 _ = _
  rw [V_main_arg1]
  refine congrArg (m ((c : Thread nD τ).loc main_arg1)) ?_
  funext a; apply Fin.ext
  match a with
  | ⟨0, _⟩ => show win0_1.index t 0 * 3200 + 1 * k.val = k.val; rw [h]; show 0 * 3200 + 1 * k.val = k.val; omega
  | ⟨1, _⟩ => show win0_1.index t 1 * 512 + 1 * j.val = 512 * t.val + j.val; rw [h]; show t.val * 512 + 1 * j.val = _; omega

/-- A block of group scales at an index is the array at the block's column. -/
theorem iblk2_apply (c : Dev nD) (t : Fin cfg0.N) (k : Fin 50) (j : Fin 512) :
    (iblk m c 2 t : Vec Ideal S50x512 .f32) (ix2 k j) = m ((c : Thread nD τ).loc main_arg2) (ix2 k (col t j)) := by
  have h := (idx_facts t).2.2.1
  unfold iblk
  rw [View.read_apply]
  show V m c main_arg2 _ = _
  rw [V_main_arg2]
  refine congrArg (m ((c : Thread nD τ).loc main_arg2)) ?_
  funext a; apply Fin.ext
  match a with
  | ⟨0, _⟩ => show win0_2.index t 0 * 50 + 1 * k.val = k.val; rw [h]; show 0 * 50 + 1 * k.val = k.val; omega
  | ⟨1, _⟩ => show win0_2.index t 1 * 512 + 1 * j.val = 512 * t.val + j.val; rw [h]; show t.val * 512 + 1 * j.val = _; omega

/-- A block of the bias at an index is the row at the block's column. -/
theorem iblk3_apply (c : Dev nD) (t : Fin cfg0.N) (k : Fin 1) (j : Fin 512) :
    (iblk m c 3 t : Vec Ideal S1x512 .f32) (ix2 k j) = bias m c (ix2 k (col t j)) := by
  have h := (idx_facts t).2.2.2.1
  unfold iblk
  rw [View.read_apply]
  show V m c main_v1 _ = _
  rw [V_main_v1]
  refine congrArg (bias m c) ?_
  funext a; apply Fin.ext
  match a with
  | ⟨0, _⟩ => show win0_3.index t 0 * 1 + 1 * k.val = k.val; rw [h]; show 0 * 1 + 1 * k.val = k.val; omega
  | ⟨1, _⟩ => show win0_3.index t 1 * 512 + 1 * j.val = 512 * t.val + j.val; rw [h]; show t.val * 512 + 1 * j.val = _; omega

/-- The block of activations is the whole matrix. -/
theorem iblk0_eq (c : Dev nD) (t : Fin cfg0.N) : (iblk m c 0 t : Vec Ideal S256x6400 .bf16) = xs m c := by
  have h := (idx_facts t).1
  funext i
  unfold iblk
  rw [View.read_apply]
  show V m c main_v0 _ = _
  rw [V_main_v0]
  refine congrArg (xs m c) ?_
  funext a; apply Fin.ext
  match a with
  | ⟨0, _⟩ => show win0_0.index t 0 * 256 + 1 * (i 0).val = (i 0).val; rw [h]; show 0 * 256 + 1 * (i 0).val = _; omega
  | ⟨1, _⟩ => show win0_0.index t 1 * 6400 + 1 * (i 1).val = (i 1).val; rw [h]; show 0 * 6400 + 1 * (i 1).val = _; omega

/-- The codes are those of the whole matrix of activations. -/
theorem codes_eq (c : Dev nD) : codes m c = outC (xs m c) := by unfold codes; rw [iblk0_eq]
/-- The scales are those of the whole matrix of activations. -/
theorem scales_eq (c : Dev nD) : scales m c = outS (xs m c) := by unfold scales; rw [iblk0_eq]

/-! ## The result arrays -/

/-- The whole product. -/
def result (c : Dev nD) : Vec Ideal S256x27648 .bf16 := fun i =>
  prod (outC (xs m c)) (outS (xs m c)) (m ((c : Thread nD τ).loc main_arg1)) (m ((c : Thread nD τ).loc main_arg2)) (bias m c) (i 0) (i 1)

/-- What the body stores at point `t`, row `r`, column `j`: the product at that row and column `col t j`. -/
theorem block_apply (c : Dev nD) (t : Fin cfg0.N) (r : Fin 256) (j : Fin 512) :
    outY (outC (xs m c)) (outS (xs m c)) (iblk m c 1 t) (iblk m c 2 t) (iblk m c 3 t) (ix2 r j) = result m c (ix2 r (col t j)) := by
  rw [outY_apply, prod_congr (outC (xs m c)) (outS (xs m c)) _ _ _ (m ((c : Thread nD τ).loc main_arg1)) (m ((c : Thread nD τ).loc main_arg2))
    (bias m c) r j (col t j) (fun k => iblk1_apply m c t k j) (fun k => iblk2_apply m c t k j) (iblk3_apply m c t 0 j)]
  rfl

/-- What a point writes back of the product is its block of the whole. -/
theorem flushed4_eq (c : Dev nD) (t : Fin cfg0.N) (_ : (cfg0.win 4).flush t = true) :
    (dats m 0 c).flushed 4 t = ((cfg0.win 4).blk t).view.read (Elt Ideal) (result m c) := by
  have h := (idx_facts t).2.2.2.2.1
  show (cfg0.win 4).cut (grid0.coords t) ((dats m 0 c).after 4 t) = _
  rw [after0_4, codes_eq, scales_eq]
  funext j
  rw [View.read_apply]
  have hj : ∀ i : S256x512.Idx, outY (outC (xs m c)) (outS (xs m c)) (iblk m c 1 t) (iblk m c 2 t) (iblk m c 3 t) i
      = result m c (ix2 (i 0) (col t (i 1))) := fun i => by
    conv_lhs => rw [ValueIdx.eq_ix2 i]
    exact block_apply m c t (i 0) (i 1)
  refine (hj j).trans (congrArg (result m c) ?_)
  funext a; apply Fin.ext
  match a with
  | ⟨0, _⟩ => show (j 0).val = win0_4.index t 0 * 256 + 1 * (j 0).val; rw [h]; show (j 0).val = 0 * 256 + 1 * (j 0).val; omega
  | ⟨1, _⟩ =>
    show 512 * t.val + (j 1).val = win0_4.index t 1 * 512 + 1 * (j 1).val
    rw [h]; show 512 * t.val + (j 1).val = t.val * 512 + 1 * (j 1).val; omega

/-- So the array of the product ends holding it: column `n` is in the block of point `n / 512`. -/
theorem final4 (c : Dev nD) : (dats m 0 c).arrAt 4 cfg0.N = result m c :=
  (dats m 0 c).arrAt_eq_of_cover 4 (result m c) (flushed4_eq m c) fun i => by
    have h0 : (i 0 : ℕ) < 256 := (i 0).isLt
    have h1 : (i 1 : ℕ) < 27648 := (i 1).isLt
    have hN : cfg0.N = 54 := N_0
    obtain ⟨t, ht⟩ : ∃ t : Fin cfg0.N, t.val = (i 1 : ℕ) / 512 := ⟨⟨(i 1 : ℕ) / 512, by omega⟩, rfl⟩
    refine ⟨t, flush0_4 t, ?_⟩
    have h := (idx_facts t).2.2.2.2.1
    show i ∈ ((View.whole main_v2_0).slice (win0_4.rect t)).set
    rw [View.set_slice_whole, Rect.mem_set_unit]
    intro a
    match a with
    | ⟨0, _⟩ =>
      show win0_4.index t 0 * 256 ≤ (i 0 : ℕ) ∧ (i 0 : ℕ) < win0_4.index t 0 * 256 + 256
      rw [h]; show 0 * 256 ≤ (i 0 : ℕ) ∧ (i 0 : ℕ) < 0 * 256 + 256; omega
    | ⟨1, _⟩ =>
      show win0_4.index t 1 * 512 ≤ (i 1 : ℕ) ∧ (i 1 : ℕ) < win0_4.index t 1 * 512 + 512
      rw [h]; show t.val * 512 ≤ (i 1 : ℕ) ∧ (i 1 : ℕ) < t.val * 512 + 512; omega

/-- The last grid point. -/
abbrev tEnd : Fin cfg0.N := ⟨53, by rw [show cfg0.N = 54 from N_0]; decide⟩

/-- The codes are written back whole, -/
theorem read5 (t : Fin cfg0.N) (X : Vec Ideal S256x6400 .fp8e4m3) :
    (cfg0.win 5).cut (grid0.coords t) X = ((cfg0.win 5).blk t).view.read (Elt Ideal) X := by
  have h := (idx_facts t).2.2.2.2.2.1
  funext j
  rw [View.read_apply]
  refine congrArg X ?_
  funext a; apply Fin.ext
  match a with
  | ⟨0, _⟩ => show (j 0).val = win0_5.index t 0 * 256 + 1 * (j 0).val; rw [h]; show (j 0).val = 0 * 256 + 1 * (j 0).val; omega
  | ⟨1, _⟩ => show (j 1).val = win0_5.index t 1 * 6400 + 1 * (j 1).val; rw [h]; show (j 1).val = 0 * 6400 + 1 * (j 1).val; omega

/-- What is written back of the codes is their whole array. -/
theorem flushed5_eq (c : Dev nD) (t : Fin cfg0.N) (_ : (cfg0.win 5).flush t = true) :
    (dats m 0 c).flushed 5 t = ((cfg0.win 5).blk t).view.read (Elt Ideal) (outC (xs m c)) := by
  show (cfg0.win 5).cut (grid0.coords t) ((dats m 0 c).after 5 t) = _
  rw [after0_5, codes_eq]
  exact read5 t _

/-- The array of the codes ends holding them. -/
theorem final5 (c : Dev nD) : (dats m 0 c).arrAt 5 cfg0.N = outC (xs m c) :=
  (dats m 0 c).arrAt_eq_of_cover 5 (outC (xs m c)) (flushed5_eq m c) fun i => by
    have h0 : (i 0 : ℕ) < 256 := (i 0).isLt
    have h1 : (i 1 : ℕ) < 6400 := (i 1).isLt
    refine ⟨tEnd, (flush0_5 tEnd).mpr rfl, ?_⟩
    have h := (idx_facts tEnd).2.2.2.2.2.1
    show i ∈ ((View.whole main_v2_1).slice (win0_5.rect tEnd)).set
    rw [View.set_slice_whole, Rect.mem_set_unit]
    intro a
    match a with
    | ⟨0, _⟩ =>
      show win0_5.index tEnd 0 * 256 ≤ (i 0 : ℕ) ∧ (i 0 : ℕ) < win0_5.index tEnd 0 * 256 + 256
      rw [h]; show 0 * 256 ≤ (i 0 : ℕ) ∧ (i 0 : ℕ) < 0 * 256 + 256; omega
    | ⟨1, _⟩ =>
      show win0_5.index tEnd 1 * 6400 ≤ (i 1 : ℕ) ∧ (i 1 : ℕ) < win0_5.index tEnd 1 * 6400 + 6400
      rw [h]; show 0 * 6400 ≤ (i 1 : ℕ) ∧ (i 1 : ℕ) < 0 * 6400 + 6400; omega

/-- and so are the scales. -/
theorem read6 (t : Fin cfg0.N) (X : Vec Ideal S256x1 .f32) :
    (cfg0.win 6).cut (grid0.coords t) X = ((cfg0.win 6).blk t).view.read (Elt Ideal) X := by
  have h := (idx_facts t).2.2.2.2.2.2
  funext j
  rw [View.read_apply]
  refine congrArg X ?_
  funext a; apply Fin.ext
  match a with
  | ⟨0, _⟩ => show (j 0).val = win0_6.index t 0 * 256 + 1 * (j 0).val; rw [h]; show (j 0).val = 0 * 256 + 1 * (j 0).val; omega
  | ⟨1, _⟩ => show (j 1).val = win0_6.index t 1 * 1 + 1 * (j 1).val; rw [h]; show (j 1).val = 0 * 1 + 1 * (j 1).val; omega

/-- What is written back of the scales is their whole array. -/
theorem flushed6_eq (c : Dev nD) (t : Fin cfg0.N) (_ : (cfg0.win 6).flush t = true) :
    (dats m 0 c).flushed 6 t = ((cfg0.win 6).blk t).view.read (Elt Ideal) (outS (xs m c)) := by
  show (cfg0.win 6).cut (grid0.coords t) ((dats m 0 c).after 6 t) = _
  rw [after0_6, scales_eq]
  exact read6 t _

/-- The array of the scales ends holding them. -/
theorem final6 (c : Dev nD) : (dats m 0 c).arrAt 6 cfg0.N = outS (xs m c) :=
  (dats m 0 c).arrAt_eq_of_cover 6 (outS (xs m c)) (flushed6_eq m c) fun i => by
    have h0 : (i 0 : ℕ) < 256 := (i 0).isLt
    have h1 : (i 1 : ℕ) < 1 := (i 1).isLt
    refine ⟨tEnd, (flush0_6 tEnd).mpr rfl, ?_⟩
    have h := (idx_facts tEnd).2.2.2.2.2.2
    show i ∈ ((View.whole main_v2_2).slice (win0_6.rect tEnd)).set
    rw [View.set_slice_whole, Rect.mem_set_unit]
    intro a
    match a with
    | ⟨0, _⟩ =>
      show win0_6.index tEnd 0 * 256 ≤ (i 0 : ℕ) ∧ (i 0 : ℕ) < win0_6.index tEnd 0 * 256 + 256
      rw [h]; show 0 * 256 ≤ (i 0 : ℕ) ∧ (i 0 : ℕ) < 0 * 256 + 256; omega
    | ⟨1, _⟩ =>
      show win0_6.index tEnd 1 * 1 ≤ (i 1 : ℕ) ∧ (i 1 : ℕ) < win0_6.index tEnd 1 * 1 + 1
      rw [h]; show 0 * 1 ≤ (i 1 : ℕ) ∧ (i 1 : ℕ) < 0 * 1 + 1; omega

/-- The run, read: the three results, and the arguments as launched. -/
theorem run : θ_run defs (onTc (τ := τ) (main (F := Ideal))) ⟨m, fun _ => 0, ρ⟩ fun r => ∀ c : Dev nD,
      r.2.mem ((c.tc : Thread nD τ).loc main_v2_0) = result m c
      ∧ r.2.mem ((c.tc : Thread nD τ).loc main_v2_1) = outC (xs m c)
      ∧ r.2.mem ((c.tc : Thread nD τ).loc main_v2_2) = outS (xs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 4).trans (final4 m c), ((h.1 c).1 5).trans (final5 m c),
    ((h.1 c).1 6).trans (final6 m c), h.2 c⟩) (θ_run_and (run_main m ρ) (unchanged m ρ))

end Cert.KernelIdeal.Hand

end
-- ==== Proof.RValue.lean ====
/-
  What the reference's product holds, entry by entry: the same sums over groups and rows of a group as a block of the kernel's.
-/
module

public import proofs.«01_k».proof.Proof.KValue
public import proofs.«01_k».proof.Proof.Gen.ReferenceIdeal.Frame

@[expose] public section

set_option maxRecDepth 16384

noncomputable section

namespace Cert.ReferenceIdeal.Hand

open Cert.ReferenceIdeal.Gen Cert.Quant
open Idealize.ShloMosaic hiding ix2 ix3
open Idealize.ShloMosaic.ValueIdx

/-- The unpacked weights of the reference. -/
def weights (w : Vec Ideal S3200x27648 .i8) : FVec Ideal S6400x27648 .fp8e4m3 :=
  truncf .fp8e4m3 (sitofp .bf16 (shapeCast S6400x27648 (concatenate S3200x2x27648 1
    [⟨S3200x1x27648, shapeCast S3200x1x27648 (subi (trunci 8 (xori (andi (extui 32 (w : IVec S3200x27648 8) natLt_8_32)
        (broadcast S3200x27648 15#32)) (broadcast S3200x27648 8#32)) natLt_8_32) (broadcast S3200x27648 8#8) : IVec S3200x27648 8)
        shapeCasts_S3200x27648_S3200x1x27648⟩,
     ⟨S3200x1x27648, shapeCast S3200x1x27648 (subi (trunci 8 (xori (andi (shrsi (extui 32 (w : IVec S3200x27648 8) natLt_8_32)
        (broadcast S3200x27648 4#32)) (broadcast S3200x27648 15#32)) (broadcast S3200x27648 8#32)) natLt_8_32)
        (broadcast S3200x27648 8#8) : IVec S3200x27648 8) shapeCasts_S3200x27648_S3200x1x27648⟩]
    concatenates_S3200x1x27648_S3200x1x27648_S3200x2x27648_d1) shapeCasts_S3200x2x27648_S6400x27648 : IVec S6400x27648 8))
    bitsLt_fp8e4m3_bf16

/-- The reference's low half of a byte, at an index. -/
theorem low_apply (w : IVec S3200x27648 8) (i : S3200x27648.Idx) :
    (subi (trunci 8 (xori (andi (extui 32 w natLt_8_32)
        (broadcast S3200x27648 15#32)) (broadcast S3200x27648 8#32)) natLt_8_32) (broadcast S3200x27648 8#8) : IVec S3200x27648 8) i
      = lo (w i) := lo_eq (w i)

/-- The reference's high half of a byte, at an index. -/
theorem high_apply (w : IVec S3200x27648 8) (i : S3200x27648.Idx) :
    (subi (trunci 8 (xori (andi (shrsi (extui 32 w natLt_8_32) (broadcast S3200x27648 4#32)) (broadcast S3200x27648 15#32))
        (broadcast S3200x27648 8#32)) natLt_8_32) (broadcast S3200x27648 8#8) : IVec S3200x27648 8) i
      = hi (w i) := hi_eq (w i)

/-- They are, at an index, the half of the packed byte. -/
theorem weights_apply (w : Vec Ideal S3200x27648 .i8) (k : Fin 6400) (c : Fin 27648) :
    weights w (ix2 k c) = half (w (ix2 (⟨k.val / 2, by omega⟩ : Fin 3200) c)) k.val := by
  unfold weights half
  rw [truncf_apply, sitofp_apply, interleave_apply _ _ _ _ _ k c ⟨k.val / 2, by omega⟩ rfl, low_apply, high_apply]

/-- The batched product read at a group, a row and a column. -/
theorem dot_apply (x : FVec Ideal S256x50x128 .fp8e4m3) (y : FVec Ideal S50x128x27648 .fp8e4m3) (g : Fin 50) (r : Fin 256) (c : Fin 27648) :
    matmul dot_S256x50x128_S50x128x27648_S50x256x27648_2_1_0_2_1_0 none x y (constant S50x256x27648 .f32 0x00000000#32) (ix3 g r c)
      = ∑ k : Fin 128, x (ix3 r g k) * y (ix3 g k c) := by
  have hr : dot_S256x50x128_S50x128x27648_S50x256x27648_2_1_0_2_1_0.contr.rank = 1 := rfl
  have hs : dot_S256x50x128_S50x128x27648_S50x256x27648_2_1_0_2_1_0.contr.size ⟨0, by rw [hr]; exact Nat.one_pos⟩ = 128 := rfl
  refine (Ideal.matmul_constant_zero_apply _ none x y (ix3 g r c)).trans ?_
  rw [← Equiv.sum_comp (contrEquiv1 _ 128 hr hs).symm]
  refine Finset.sum_congr rfl fun k _ => ?_
  have hk := contrEquiv1_symm_val _ 128 hr hs k
  have el : dot_S256x50x128_S50x128x27648_S50x256x27648_2_1_0_2_1_0.lhsIdx (ix3 g r c) ((contrEquiv1 _ 128 hr hs).symm k) = ix3 r g k := by
    funext a; apply Fin.ext
    match a with
    | ⟨0, _⟩ => rfl
    | ⟨1, _⟩ => rfl
    | ⟨2, _⟩ => exact hk
  have er : dot_S256x50x128_S50x128x27648_S50x256x27648_2_1_0_2_1_0.rhsIdx (ix3 g r c) ((contrEquiv1 _ 128 hr hs).symm k) = ix3 g k c := by
    funext a; apply Fin.ext
    match a with
    | ⟨0, _⟩ => rfl
    | ⟨1, _⟩ => exact hk
    | ⟨2, _⟩ => rfl
  rw [el, er]

/-- The sum over the groups, read at a row and a column. -/
theorem sum_groups (src : FVec Ideal S50x256x27648 .f32) (r : Fin 256) (c : Fin 27648) :
    multiReduction .add [0] S256x27648 src 0x00000000#32 reduces_S50x256x27648_S256x27648 (.inl rfl) rfl (ix2 r c)
      = ∑ g : Fin 50, src (ix3 g r c) := by
  refine (Ideal.multiReduction_add_single src _ reduces_S50x256x27648_S256x27648 (.inl rfl) rfl (ix2 r c)).trans ?_
  refine Finset.sum_congr rfl fun g _ => congrArg src ?_
  funext a; apply Fin.ext
  match a with
  | ⟨0, _⟩ => rfl
  | ⟨1, _⟩ => rfl
  | ⟨2, _⟩ => rfl

/-- The product the reference stores, from its codes `C`, its scales `S` and the whole arrays. -/
def yR (C : FVec Ideal S256x6400 .fp8e4m3) (S : FVec Ideal S256x1 .f32) (w : Vec Ideal S3200x27648 .i8) (G : Vec Ideal S50x27648 .f32)
    (B : Vec Ideal S1x27648 .f32) : FVec Ideal S256x27648 .bf16 :=
  truncf .bf16 (addf (mulf (multiReduction .add [0] S256x27648 (mulf
      (matmul dot_S256x50x128_S50x128x27648_S50x256x27648_2_1_0_2_1_0 none (shapeCast S256x50x128 C shapeCasts_S256x6400_S256x50x128)
        (shapeCast S50x128x27648 (weights w) shapeCasts_S6400x27648_S50x128x27648) (constant S50x256x27648 .f32 0x00000000#32))
      (broadcastTo S50x256x27648 (shapeCast S50x1x27648 G shapeCasts_S50x27648_S50x1x27648) broadcasts_S50x1x27648_S50x256x27648))
      0x00000000#32 reduces_S50x256x27648_S256x27648 (.inl rfl) rfl)
      (broadcastTo S256x27648 S broadcasts_S256x1_S256x27648))
    (broadcastTo S256x27648 (shapeCast S1x27648 B shapeCasts_S1x27648_S1x27648) broadcasts_S1x27648_S256x27648)) bitsLt_bf16_f32

/-- That product at a row and a column. -/
theorem yR_apply (C : FVec Ideal S256x6400 .fp8e4m3) (S : FVec Ideal S256x1 .f32) (w : Vec Ideal S3200x27648 .i8) (G : Vec Ideal S50x27648 .f32)
    (B : Vec Ideal S1x27648 .f32) (r : Fin 256) (c : Fin 27648) : yR C S w G B (ix2 r c) = prod C S w G B r c := by
  unfold yR
  rw [truncf_apply, addf_apply, mulf_apply,
    broadcastTo_apply S broadcasts_S256x1_S256x27648 (ix2 r c) (ix2 r (0 : Fin 1)) (by
      intro b
      match b with
      | ⟨0, _⟩ => rfl
      | ⟨1, _⟩ => rfl),
    broadcastTo_apply _ broadcasts_S1x27648_S256x27648 (ix2 r c) (ix2 (0 : Fin 1) c) (by
      intro b
      match b with
      | ⟨0, _⟩ => rfl
      | ⟨1, _⟩ => rfl),
    shapeCast_self]
  unfold prod
  have key : ∀ a b s t : EReal, a = b → a * s + t = b * s + t := by
    rintro a b s t rfl
    rfl
  refine key _ _ _ _ ((sum_groups _ r c).trans (Finset.sum_congr rfl fun g _ => ?_))
  rw [mulf_apply, dot_apply,
    broadcastTo_apply _ broadcasts_S50x1x27648_S50x256x27648 (ix3 g r c) (ix3 g (0 : Fin 1) c) (by
      intro b
      match b with
      | ⟨0, _⟩ => rfl
      | ⟨1, _⟩ => rfl
      | ⟨2, _⟩ => rfl),
    shapeCast_apply G shapeCasts_S50x27648_S50x1x27648 (ix3 g (0 : Fin 1) c) (ix2 g c) (by
      rw [rowMajor_val2 _ 27648 rfl, rowMajor_val3 _ 27648 27648 rfl rfl]
      show g.val * 27648 + c.val = g.val * 27648 + 0 * 27648 + c.val
      omega)]
  refine congrArg (· * _) (Finset.sum_congr rfl fun k _ => ?_)
  rw [shapeCast_apply C shapeCasts_S256x6400_S256x50x128 (ix3 r g k) (ix2 r (⟨128 * g.val + k.val, by omega⟩ : Fin 6400)) (by
      rw [rowMajor_val2 _ 6400 rfl, rowMajor_val3 _ 6400 128 rfl rfl]
      show r.val * 6400 + (128 * g.val + k.val) = r.val * 6400 + g.val * 128 + k.val
      omega),
    shapeCast_apply (weights w) shapeCasts_S6400x27648_S50x128x27648 (ix3 g k c) (ix2 (⟨128 * g.val + k.val, by omega⟩ : Fin 6400) c) (by
      rw [rowMajor_val2 _ 27648 rfl, rowMajor_val3 _ 3538944 27648 rfl rfl]
      show (128 * g.val + k.val) * 27648 + c.val = g.val * 3538944 + k.val * 27648 + c.val
      omega),
    weights_apply]
  unfold half
  rw [show (128 * g.val + k.val) % 2 = k.val % 2 by omega]
  have hb : (⟨(128 * g.val + k.val) / 2, by omega⟩ : Fin 3200) = ⟨64 * g.val + k.val / 2, by omega⟩ := Fin.ext (by
    show (128 * g.val + k.val) / 2 = 64 * g.val + k.val / 2
    omega)
  rw [hb]

/-- The reference's window of the product, from its windows of codes and scales. -/
theorem out0_4_eq (x0 : Vec Ideal S256x6400 .bf16) (x1 : Vec Ideal S3200x27648 .i8) (x2 : Vec Ideal S50x27648 .f32) (x3 : Vec Ideal S1x27648 .f32) :
    out0_4 x0 x1 x2 x3 = yR (out0_5 x0 x1 x2 x3) (out0_6 x0 x1 x2 x3) x1 x2 x3 := by
  have h00 : (![0, 0] : Fin 2 → ℕ) = fun _ => 0 := by funext a; fin_cases a <;> rfl
  unfold out0_4 out0_5 out0_6
  rw [View.canon_unit_zero (S := S256x27648) h00, View.canon_unit_zero (S := S256x6400) h00, View.canon_unit_zero (S := S256x1) h00,
    View.ld_unit_zero (S := S3200x27648) h00, View.ld_unit_zero (S := S50x27648) h00, View.ld_unit_zero (S := S1x27648) h00]
  unfold k0_pay6 yR weights
  rfl

end Cert.ReferenceIdeal.Hand

end
-- ==== Proof.RArr.lean ====
/-
  What the reference's three result arrays hold after its run, each as one function of the argument arrays: its one grid point
  reads and writes whole arrays.
-/
module

public import proofs.«01_k».proof.Proof.RValue
public import Idealize.ShloMosaic.Lib.Pipeline.Value
public import Idealize.ShloMosaic.Lib.StableHlo.Run
public import Idealize.ShloMosaic.Lib.Claim

@[expose] public section

set_option maxRecDepth 16384

noncomputable section

namespace Cert.ReferenceIdeal.Hand

open Cert.ReferenceIdeal.Gen Cert.Quant
open Idealize.ShloMosaic hiding ix2 ix3
open Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-! ## The arrays the region finds -/

/-- The activations as a matrix: the first argument, its unit axis dropped. -/
def xs (c : Dev nD) : Vec Ideal S256x6400 .bf16 :=
  shapeCast S256x6400 (m ((c : Thread nD τ).loc main_arg0)) shapeCasts_S256x1x6400_S256x6400

/-- The bias as a row: the last argument with a unit axis in front. -/
def bias (c : Dev nD) : Vec Ideal S1x27648 .f32 :=
  shapeCast S1x27648 (m ((c : Thread nD τ).loc main_arg3)) shapeCasts_S27648_S1x27648

/-- The region finds the activations reshaped. -/
theorem V_main_v0 (c : Dev nD) : V m c main_v0 = xs m c := by
  show StableHlo.after hostOps0 (fun b => m (c, b)) main_v0 = _
  after_results
  rfl

/-- The region finds the bias reshaped. -/
theorem V_main_v1 (c : Dev nD) : V m c main_v1 = bias m c := by
  show StableHlo.after hostOps0 (fun b => m (c, b)) main_v1 = _
  after_results
  rfl

/-! ## The blocks are the arrays -/

/-- The window's one block is at index zero. -/
theorem idx0 : ∀ (t : Fin cfg0.N) a, win0_0.index t a = 0 := (by decide +kernel : ∀ (t : Fin grid0.N) a, win0_0.index t a = 0)
/-- The window's one block is at index zero. -/
theorem idx1 : ∀ (t : Fin cfg0.N) a, win0_1.index t a = 0 := (by decide +kernel : ∀ (t : Fin grid0.N) a, win0_1.index t a = 0)
/-- The window's one block is at index zero. -/
theorem idx2 : ∀ (t : Fin cfg0.N) a, win0_2.index t a = 0 := (by decide +kernel : ∀ (t : Fin grid0.N) a, win0_2.index t a = 0)
/-- The window's one block is at index zero. -/
theorem idx3 : ∀ (t : Fin cfg0.N) a, win0_3.index t a = 0 := (by decide +kernel : ∀ (t : Fin grid0.N) a, win0_3.index t a = 0)
/-- The window's one block is at index zero. -/
theorem idx4 : ∀ (t : Fin cfg0.N) a, win0_4.index t a = 0 := (by decide +kernel : ∀ (t : Fin grid0.N) a, win0_4.index t a = 0)
/-- The window's one block is at index zero. -/
theorem idx5 : ∀ (t : Fin cfg0.N) a, win0_5.index t a = 0 := (by decide +kernel : ∀ (t : Fin grid0.N) a, win0_5.index t a = 0)
/-- The window's one block is at index zero. -/
theorem idx6 : ∀ (t : Fin cfg0.N) a, win0_6.index t a = 0 := (by decide +kernel : ∀ (t : Fin grid0.N) a, win0_6.index t a = 0)

/-- The window's block is the whole array. -/
theorem iblk0_eq (c : Dev nD) (t : Fin cfg0.N) : (iblk m c 0 t : Vec Ideal S256x6400 .bf16) = xs m c := by
  funext i
  unfold iblk
  rw [View.read_apply]
  show V m c main_v0 _ = _
  rw [V_main_v0]
  refine congrArg (xs m c) ?_
  funext a; apply Fin.ext
  match a with
  | ⟨0, _⟩ => show win0_0.index t 0 * 256 + 1 * (i 0).val = (i 0).val; rw [idx0 t 0]; omega
  | ⟨1, _⟩ => show win0_0.index t 1 * 6400 + 1 * (i 1).val = (i 1).val; rw [idx0 t 1]; omega

/-- The window's block is the whole array. -/
theorem iblk1_eq (c : Dev nD) (t : Fin cfg0.N) : (iblk m c 1 t : Vec Ideal S3200x27648 .i8) = m ((c : Thread nD τ).loc main_arg1) := by
  funext i
  unfold iblk
  rw [View.read_apply]
  show V m c main_arg1 _ = _
  rw [V_main_arg1]
  refine congrArg (m ((c : Thread nD τ).loc main_arg1)) ?_
  funext a; apply Fin.ext
  match a with
  | ⟨0, _⟩ => show win0_1.index t 0 * 3200 + 1 * (i 0).val = (i 0).val; rw [idx1 t 0]; omega
  | ⟨1, _⟩ => show win0_1.index t 1 * 27648 + 1 * (i 1).val = (i 1).val; rw [idx1 t 1]; omega

/-- The window's block is the whole array. -/
theorem iblk2_eq (c : Dev nD) (t : Fin cfg0.N) : (iblk m c 2 t : Vec Ideal S50x27648 .f32) = m ((c : Thread nD τ).loc main_arg2) := by
  funext i
  unfold iblk
  rw [View.read_apply]
  show V m c main_arg2 _ = _
  rw [V_main_arg2]
  refine congrArg (m ((c : Thread nD τ).loc main_arg2)) ?_
  funext a; apply Fin.ext
  match a with
  | ⟨0, _⟩ => show win0_2.index t 0 * 50 + 1 * (i 0).val = (i 0).val; rw [idx2 t 0]; omega
  | ⟨1, _⟩ => show win0_2.index t 1 * 27648 + 1 * (i 1).val = (i 1).val; rw [idx2 t 1]; omega

/-- The window's block is the whole array. -/
theorem iblk3_eq (c : Dev nD) (t : Fin cfg0.N) : (iblk m c 3 t : Vec Ideal S1x27648 .f32) = bias m c := by
  funext i
  unfold iblk
  rw [View.read_apply]
  show V m c main_v1 _ = _
  rw [V_main_v1]
  refine congrArg (bias m c) ?_
  funext a; apply Fin.ext
  match a with
  | ⟨0, _⟩ => show win0_3.index t 0 * 1 + 1 * (i 0).val = (i 0).val; rw [idx3 t 0]; omega
  | ⟨1, _⟩ => show win0_3.index t 1 * 27648 + 1 * (i 1).val = (i 1).val; rw [idx3 t 1]; omega

/-! ## The result arrays -/

/-- The codes and the scales of the reference, of the whole arrays. -/
def codesR (c : Dev nD) : Vec Ideal S256x6400 .fp8e4m3 :=
  out0_5 (F := Ideal) (xs m c) (m ((c : Thread nD τ).loc main_arg1)) (m ((c : Thread nD τ).loc main_arg2)) (bias m c)
/-- The scales of the reference, of the whole arrays. -/
def scalesR (c : Dev nD) : Vec Ideal S256x1 .f32 :=
  out0_6 (F := Ideal) (xs m c) (m ((c : Thread nD τ).loc main_arg1)) (m ((c : Thread nD τ).loc main_arg2)) (bias m c)

/-- The whole product. -/
def result (c : Dev nD) : Vec Ideal S256x27648 .bf16 :=
  yR (codesR m c) (scalesR m c) (m ((c : Thread nD τ).loc main_arg1)) (m ((c : Thread nD τ).loc main_arg2)) (bias m c)

/-- Window 4's block is its whole array, -/
theorem read4 (t : Fin cfg0.N) (X : Vec Ideal S256x27648 .bf16) :
    (cfg0.win 4).cut (grid0.coords t) X = ((cfg0.win 4).blk t).view.read (Elt Ideal) X := by
  funext i
  rw [View.read_apply]
  refine congrArg X ?_
  funext a; apply Fin.ext; symm
  match a with
  | ⟨0, _⟩ => show win0_4.index t 0 * 256 + 1 * (i 0).val = (i 0).val; rw [idx4 t 0]; omega
  | ⟨1, _⟩ => show win0_4.index t 1 * 27648 + 1 * (i 1).val = (i 1).val; rw [idx4 t 1]; omega

/-- After the body the window's buffer holds the result of the whole arrays. -/
theorem after4_eq (c : Dev nD) (t : Fin cfg0.N) : (dats m 0 c).after 4 t = result m c := by
  rw [after0_4, iblk0_eq, iblk1_eq, iblk2_eq, iblk3_eq, out0_4_eq]
  rfl

/-- so that array ends holding the body's result. -/
theorem final4 (c : Dev nD) : (dats m 0 c).arrAt 4 cfg0.N = result m c :=
  (dats m 0 c).arrAt_eq_of_cover 4 (result m c) (fun t _ => by
    show (cfg0.win 4).cut (grid0.coords t) ((dats m 0 c).after 4 t) = _
    rw [after4_eq]
    exact read4 t _) fun i => by
    have h0 : (i 0 : ℕ) < 256 := (i 0).isLt
    have h1 : (i 1 : ℕ) < 27648 := (i 1).isLt
    have hN : 0 < cfg0.N := by rw [show cfg0.N = 1 from N_0]; decide
    obtain ⟨t, ht⟩ : ∃ t : Fin cfg0.N, t.val = 0 := ⟨⟨0, hN⟩, rfl⟩
    refine ⟨t, flush0_4 t, ?_⟩
    show i ∈ ((View.whole main_v2_0).slice (win0_4.rect t)).set
    rw [View.set_slice_whole, Rect.mem_set_unit]
    intro a
    match a with
    | ⟨0, _⟩ =>
      show win0_4.index t 0 * 256 ≤ (i 0 : ℕ) ∧ (i 0 : ℕ) < win0_4.index t 0 * 256 + 256
      rw [idx4 t 0]; omega
    | ⟨1, _⟩ =>
      show win0_4.index t 1 * 27648 ≤ (i 1 : ℕ) ∧ (i 1 : ℕ) < win0_4.index t 1 * 27648 + 27648
      rw [idx4 t 1]; omega

/-- Window 5's block is its whole array, -/
theorem read5 (t : Fin cfg0.N) (X : Vec Ideal S256x6400 .fp8e4m3) :
    (cfg0.win 5).cut (grid0.coords t) X = ((cfg0.win 5).blk t).view.read (Elt Ideal) X := by
  funext i
  rw [View.read_apply]
  refine congrArg X ?_
  funext a; apply Fin.ext; symm
  match a with
  | ⟨0, _⟩ => show win0_5.index t 0 * 256 + 1 * (i 0).val = (i 0).val; rw [idx5 t 0]; omega
  | ⟨1, _⟩ => show win0_5.index t 1 * 6400 + 1 * (i 1).val = (i 1).val; rw [idx5 t 1]; omega

/-- After the body the window's buffer holds the result of the whole arrays. -/
theorem after5_eq (c : Dev nD) (t : Fin cfg0.N) : (dats m 0 c).after 5 t = codesR m c := by
  rw [after0_5, iblk0_eq, iblk1_eq, iblk2_eq, iblk3_eq]
  rfl

/-- so that array ends holding the body's result. -/
theorem final5 (c : Dev nD) : (dats m 0 c).arrAt 5 cfg0.N = codesR m c :=
  (dats m 0 c).arrAt_eq_of_cover 5 (codesR m c) (fun t _ => by
    show (cfg0.win 5).cut (grid0.coords t) ((dats m 0 c).after 5 t) = _
    rw [after5_eq]
    exact read5 t _) fun i => by
    have h0 : (i 0 : ℕ) < 256 := (i 0).isLt
    have h1 : (i 1 : ℕ) < 6400 := (i 1).isLt
    have hN : 0 < cfg0.N := by rw [show cfg0.N = 1 from N_0]; decide
    obtain ⟨t, ht⟩ : ∃ t : Fin cfg0.N, t.val = 0 := ⟨⟨0, hN⟩, rfl⟩
    refine ⟨t, flush0_5 t, ?_⟩
    show i ∈ ((View.whole main_v2_1).slice (win0_5.rect t)).set
    rw [View.set_slice_whole, Rect.mem_set_unit]
    intro a
    match a with
    | ⟨0, _⟩ =>
      show win0_5.index t 0 * 256 ≤ (i 0 : ℕ) ∧ (i 0 : ℕ) < win0_5.index t 0 * 256 + 256
      rw [idx5 t 0]; omega
    | ⟨1, _⟩ =>
      show win0_5.index t 1 * 6400 ≤ (i 1 : ℕ) ∧ (i 1 : ℕ) < win0_5.index t 1 * 6400 + 6400
      rw [idx5 t 1]; omega

/-- Window 6's block is its whole array, -/
theorem read6 (t : Fin cfg0.N) (X : Vec Ideal S256x1 .f32) :
    (cfg0.win 6).cut (grid0.coords t) X = ((cfg0.win 6).blk t).view.read (Elt Ideal) X := by
  funext i
  rw [View.read_apply]
  refine congrArg X ?_
  funext a; apply Fin.ext; symm
  match a with
  | ⟨0, _⟩ => show win0_6.index t 0 * 256 + 1 * (i 0).val = (i 0).val; rw [idx6 t 0]; omega
  | ⟨1, _⟩ => show win0_6.index t 1 * 1 + 1 * (i 1).val = (i 1).val; rw [idx6 t 1]; omega

/-- After the body the window's buffer holds the result of the whole arrays. -/
theorem after6_eq (c : Dev nD) (t : Fin cfg0.N) : (dats m 0 c).after 6 t = scalesR m c := by
  rw [after0_6, iblk0_eq, iblk1_eq, iblk2_eq, iblk3_eq]
  rfl

/-- so that array ends holding the body's result. -/
theorem final6 (c : Dev nD) : (dats m 0 c).arrAt 6 cfg0.N = scalesR m c :=
  (dats m 0 c).arrAt_eq_of_cover 6 (scalesR m c) (fun t _ => by
    show (cfg0.win 6).cut (grid0.coords t) ((dats m 0 c).after 6 t) = _
    rw [after6_eq]
    exact read6 t _) fun i => by
    have h0 : (i 0 : ℕ) < 256 := (i 0).isLt
    have h1 : (i 1 : ℕ) < 1 := (i 1).isLt
    have hN : 0 < cfg0.N := by rw [show cfg0.N = 1 from N_0]; decide
    obtain ⟨t, ht⟩ : ∃ t : Fin cfg0.N, t.val = 0 := ⟨⟨0, hN⟩, rfl⟩
    refine ⟨t, flush0_6 t, ?_⟩
    show i ∈ ((View.whole main_v2_2).slice (win0_6.rect t)).set
    rw [View.set_slice_whole, Rect.mem_set_unit]
    intro a
    match a with
    | ⟨0, _⟩ =>
      show win0_6.index t 0 * 256 ≤ (i 0 : ℕ) ∧ (i 0 : ℕ) < win0_6.index t 0 * 256 + 256
      rw [idx6 t 0]; omega
    | ⟨1, _⟩ =>
      show win0_6.index t 1 * 1 ≤ (i 1 : ℕ) ∧ (i 1 : ℕ) < win0_6.index t 1 * 1 + 1
      rw [idx6 t 1]; omega

/-- The run, read: the three results, and the arguments as launched. -/
theorem run : θ_run defs (onTc (τ := τ) (main (F := Ideal))) ⟨m, fun _ => 0, ρ⟩ fun r => ∀ c : Dev nD,
      r.2.mem ((c.tc : Thread nD τ).loc main_v2_0) = result m c
      ∧ r.2.mem ((c.tc : Thread nD τ).loc main_v2_1) = codesR m c
      ∧ r.2.mem ((c.tc : Thread nD τ).loc main_v2_2) = scalesR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 4).trans (final4 m c), ((h.1 c).1 5).trans (final5 m c),
    ((h.1 c).1 6).trans (final6 m c), h.2 c⟩) (θ_run_and (run_main m ρ) (frame_of m ρ (dats m) (A_eq m) (run_main m ρ)))

end Cert.ReferenceIdeal.Hand

end
-- ==== Proof.Pow.lean ====
/-
  Powers of two and the exponent of a positive number, over the extended reals: what the f32 word built for an exponent
  denotes, what the nine halvings of the exponent search find, and that both agree with the floor of the base-two logarithm.
-/
module

public import Idealize.ShloMosaic.PureOps.Ideal.Laws
public import Idealize.ShloMosaic.Lib.ValueIdx

@[expose] public section

noncomputable section

namespace Cert.Quant

open Idealize.ShloMosaic

/-! ## The word of a power of two -/

/-- The f32 whose word is built for the exponent `e`: infinity from 128 on, a normal number down to -126, a subnormal below. -/
def p2 (e : BitVec 32) : EReal :=
  Ideal.ofBits .f32 (Scalar.select (IntOp.cmpi .sge e 128#32) 2139095040#32
    (Scalar.select (IntOp.cmpi .sge e 4294967170#32) (IntOp.shli .vector (IntOp.addi e 127#32) 23#32)
      (IntOp.shli .vector 1#32 (IntOp.addi e 149#32))))

/-- Two to the power `n`, with infinity from 128 on. -/
def T (n : ℤ) : EReal := if 128 ≤ n then ⊤ else (((2 : ℝ) ^ n : ℝ) : EReal)

/-- The word of infinity. -/
theorem ofBits_inf : Ideal.ofBits .f32 0x7F800000#32 = (⊤ : EReal) := by
  simp [Ideal.ofBits, Ideal.ieee]

/-- A word with no sign and no fraction and exponent field `k + 1` below 255 denotes two to the `k - 126`. -/
theorem ofBits_normal : ∀ k : Fin 254, Ideal.ofBits .f32 (BitVec.ofNat 32 ((k.val + 1) * 2 ^ 23)) = (((2 : ℝ) ^ ((k.val : ℤ) - 126) : ℝ) : EReal) := by
  intro k
  have h : ∀ k : Fin 254, ((BitVec.ofNat 32 ((k.val + 1) * 2 ^ 23)).extractLsb' 31 1 == 1#1) = false
      ∧ ((BitVec.ofNat 32 ((k.val + 1) * 2 ^ 23)).extractLsb' 23 8).toNat = k.val + 1
      ∧ ((BitVec.ofNat 32 ((k.val + 1) * 2 ^ 23)).extractLsb' 0 23).toNat = 0 := by decide +kernel
  obtain ⟨h1, h2, h3⟩ := h k
  have hk := k.isLt
  show Ideal.ieee 8 23 _ = _
  unfold Ideal.ieee
  simp only [h1, h2, h3]
  rw [if_neg (by omega), if_neg (by omega)]
  congr 1
  simp only [Bool.false_eq_true, if_false, one_mul, add_zero]
  push_cast
  norm_num
  rw [show (8388608 : ℝ) = (2 : ℝ) ^ (23 : ℤ) by norm_num, ← zpow_add₀ (by norm_num : (2 : ℝ) ≠ 0)]
  congr 1
  ring

/-- A word whose one bit is bit `j` of the fraction denotes two to the `j - 149`. -/
theorem ofBits_subnormal : ∀ j : Fin 23, Ideal.ofBits .f32 (BitVec.ofNat 32 (2 ^ j.val)) = (((2 : ℝ) ^ ((j.val : ℤ) - 149) : ℝ) : EReal) := by
  intro j
  have h : ∀ j : Fin 23, ((BitVec.ofNat 32 (2 ^ j.val)).extractLsb' 31 1 == 1#1) = false
      ∧ ((BitVec.ofNat 32 (2 ^ j.val)).extractLsb' 23 8).toNat = 0
      ∧ ((BitVec.ofNat 32 (2 ^ j.val)).extractLsb' 0 23).toNat = 2 ^ j.val := by decide +kernel
  obtain ⟨h1, h2, h3⟩ := h j
  show Ideal.ieee 8 23 _ = _
  unfold Ideal.ieee
  simp only [h1, h2, h3]
  rw [if_neg (by omega), if_pos trivial]
  congr 1
  simp only [Bool.false_eq_true, if_false, one_mul]
  push_cast
  rw [← zpow_natCast (2 : ℝ) j.val, ← zpow_add₀ (by norm_num : (2 : ℝ) ≠ 0)]
  congr 1

/-- The built word denotes the power of two, for every exponent from -149 to 400. -/
theorem p2_ofInt (n : ℤ) (h1 : -149 ≤ n) (h2 : n ≤ 400) : p2 (BitVec.ofInt 32 n) = T n := by
  obtain ⟨d, rfl⟩ : ∃ d : Fin 550, n = (d.val : ℤ) - 149 := ⟨⟨(n + 149).toNat, by omega⟩, by simp; omega⟩
  have h : ∀ d : Fin 550, Scalar.select (IntOp.cmpi .sge (BitVec.ofInt 32 ((d.val : ℤ) - 149)) 128#32) 2139095040#32
      (Scalar.select (IntOp.cmpi .sge (BitVec.ofInt 32 ((d.val : ℤ) - 149)) 4294967170#32)
        (IntOp.shli .vector (IntOp.addi (BitVec.ofInt 32 ((d.val : ℤ) - 149)) 127#32) 23#32)
        (IntOp.shli .vector 1#32 (IntOp.addi (BitVec.ofInt 32 ((d.val : ℤ) - 149)) 149#32)))
      = if 277 ≤ d.val then 0x7F800000#32 else if 23 ≤ d.val then BitVec.ofNat 32 ((d.val - 22) * 2 ^ 23)
        else BitVec.ofNat 32 (2 ^ d.val) := by decide +kernel
  unfold p2 T
  rw [h d]
  by_cases ha : 277 ≤ d.val
  · rw [if_pos ha, if_pos (by omega)]; exact ofBits_inf
  · rw [if_neg ha, if_neg (show ¬ (128 : ℤ) ≤ (d.val : ℤ) - 149 by omega)]
    by_cases hb : 23 ≤ d.val
    · rw [if_pos hb]
      have := ofBits_normal ⟨d.val - 23, by omega⟩
      rw [show (⟨d.val - 23, by omega⟩ : Fin 254).val + 1 = d.val - 22 by show d.val - 23 + 1 = _; omega] at this
      rw [this]
      congr 2
      show ((d.val - 23 : ℕ) : ℤ) - 126 = _
      omega
    · rw [if_neg hb]
      exact ofBits_subnormal ⟨d.val, by omega⟩

/-! ## The search -/

/-- One halving of the search at one row. -/
def halve1 (v : EReal) (k s : BitVec 32) : BitVec 32 :=
  Scalar.select (Ideal.cmp .oge v (p2 (IntOp.addi k s))) (IntOp.addi k s) k

/-- The search at one row: nine halvings from -150. -/
def search1 (v : EReal) : BitVec 32 :=
  halve1 v (halve1 v (halve1 v (halve1 v (halve1 v (halve1 v (halve1 v (halve1 v (halve1 v 4294967146#32
    256#32) 128#32) 64#32) 32#32) 16#32) 8#32) 4#32) 2#32) 1#32

/-- The search's invariant: the candidate is `n`, at least -150, two to the `n` is at most `v` unless `n` is -150, and
    two to the `n + s` is above `v`. -/
def Inv (v : EReal) (k : BitVec 32) (s : ℤ) : Prop :=
  ∃ n : ℤ, k = BitVec.ofInt 32 n ∧ -150 ≤ n ∧ n ≤ 127 ∧ (n = -150 ∨ T n ≤ v) ∧ v < T (n + s)

/-- A halving keeps the invariant at half the step. -/
theorem halve1_inv (v : EReal) (hv : v < ⊤) (k : BitVec 32) (s : ℤ) (h0 : 0 < s) (h1 : s ≤ 256) (h : Inv v k (2 * s)) :
    Inv v (halve1 v k (BitVec.ofInt 32 s)) s := by
  obtain ⟨n, rfl, hn, hn', hlo, hhi⟩ := h
  have hadd : IntOp.addi (BitVec.ofInt 32 n) (BitVec.ofInt 32 s) = BitVec.ofInt 32 (n + s) :=
    (BitVec.ofInt_add n s).symm
  unfold halve1
  rw [hadd, p2_ofInt (n + s) (by omega) (by omega)]
  by_cases hc : T (n + s) ≤ v
  · have hsel : Ideal.cmp .oge v (T (n + s)) = 1#1 := by simp [Ideal.cmp, hc]
    rw [hsel, ValueIdx.select_one]
    refine ⟨n + s, rfl, by omega, ?_, .inr hc, ?_⟩
    · by_contra hcon
      have : T (n + s) = ⊤ := if_pos (by omega)
      rw [this] at hc
      exact absurd hv (not_lt.mpr hc)
    · rw [show n + s + s = n + 2 * s by ring]; exact hhi
  · have hsel : Ideal.cmp .oge v (T (n + s)) = 0#1 := by simp [Ideal.cmp, hc]
    rw [hsel, ValueIdx.select_zero]
    exact ⟨n, rfl, hn, hn', hlo, not_le.mp hc⟩

/-- What the search finds, below infinity. -/
theorem search1_inv (v : EReal) (hv : v < ⊤) : Inv v (search1 v) 1 := by
  have h0 : Inv v 4294967146#32 (2 * 256) := by
    refine ⟨-150, by decide, by omega, by omega, .inl rfl, ?_⟩
    rw [show T (-150 + 2 * 256) = ⊤ from if_pos (by norm_num)]
    exact hv
  have h1 := halve1_inv v hv _ 256 (by norm_num) (by norm_num) h0
  have h2 := halve1_inv v hv _ 128 (by norm_num) (by norm_num) h1
  have h3 := halve1_inv v hv _ 64 (by norm_num) (by norm_num) h2
  have h4 := halve1_inv v hv _ 32 (by norm_num) (by norm_num) h3
  have h5 := halve1_inv v hv _ 16 (by norm_num) (by norm_num) h4
  have h6 := halve1_inv v hv _ 8 (by norm_num) (by norm_num) h5
  have h7 := halve1_inv v hv _ 4 (by norm_num) (by norm_num) h6
  have h8 := halve1_inv v hv _ 2 (by norm_num) (by norm_num) h7
  exact halve1_inv v hv _ 1 (by norm_num) (by norm_num) h8

/-! ## The logarithm -/

/-- For a positive number the search finds the floor of the base-two logarithm, clipped to -150 and 127. -/
theorem clip_floor (r : ℝ) (hr : 0 < r) (n : ℤ) (hn : -150 ≤ n) (hn' : n ≤ 127) (hlo : n = -150 ∨ T n ≤ (r : EReal))
    (hhi : (r : EReal) < T (n + 1)) : min 127 (max (-150) ⌊Real.log r / Real.log 2⌋) = n := by
  have hl2 : 0 < Real.log 2 := Real.log_pos (by norm_num)
  have hup : n + 1 ≤ 127 → ⌊Real.log r / Real.log 2⌋ < n + 1 := by
    intro hle
    rw [T, if_neg (by omega), EReal.coe_lt_coe_iff] at hhi
    rw [Int.floor_lt, div_lt_iff₀ hl2, ← Real.log_zpow]
    exact Real.log_lt_log hr hhi
  have hdn : n ≠ -150 → n ≤ ⌊Real.log r / Real.log 2⌋ := by
    intro hne
    rcases hlo with h | h
    · exact absurd h hne
    · rw [T, if_neg (by omega), EReal.coe_le_coe_iff] at h
      rw [Int.le_floor, le_div_iff₀ hl2, ← Real.log_zpow]
      exact Real.log_le_log (by positivity) h
  omega

end Cert.Quant

end
-- ==== Proof.Expo.lean ====
/-
  The exponent of a row's scale, from the row's largest magnitude: found by search on one side, by the logarithm on the other.
  Both are the same integer, and so are the two scales and the two factors that divide by the scale.
-/
module

public import proofs.«01_k».proof.Proof.Pow

@[expose] public section

noncomputable section

namespace Cert.Quant

open Idealize.ShloMosaic

/-- The largest magnitude over 448, as a product with the constant nearest 1/448. -/
def ratio (a : EReal) : EReal := a * Ideal.ofBits .f32 0x3B124925#32

/-- The exponent by search: 0 for a row of zeros or one with an infinity, else one more than the search finds. -/
def kExpo (a : EReal) : BitVec 32 :=
  Scalar.select (Ideal.cmp .oeq a (Ideal.ofBits .f32 0x00000000#32)) 0#32
    (Scalar.select (IntOp.andi (Ideal.cmp .ogt (ratio a) (Ideal.ofBits .f32 0x00000000#32))
      (Ideal.cmp .olt (ratio a) (Ideal.ofBits .f32 0x7F800000#32))) (IntOp.addi (search1 (ratio a)) 1#32) 0#32)

/-- The exponent by logarithm: 0 for a row of zeros or one with an infinity, else one more than the clipped floor. -/
def rExpo (a : EReal) : EReal :=
  Scalar.select (IntOp.ori (Ideal.cmp .oeq a (Ideal.ofBits .f32 0x00000000#32)) (Ideal.cmp .oeq a (Ideal.ofBits .f32 0x7F800000#32)))
    (Ideal.ofBits .f32 0x00000000#32)
    (Ideal.ofBits .f32 0x3F800000#32 + min (Ideal.ofBits .f32 0x42FE0000#32) (max (Ideal.ofBits .f32 0xC3160000#32)
      (Ideal.liftRound Int.floor (Ideal.div (Ideal.log (ratio a)) (Ideal.log (Ideal.ofBits .f32 0x40000000#32))))))

/-- Two to the power of an extended real, with infinity from 128 on. -/
def rPow (e : EReal) : EReal :=
  Scalar.select (Ideal.cmp .oge e (Ideal.ofBits .f32 0x43000000#32)) (Ideal.ofBits .f32 0x7F800000#32) (Ideal.exp2 e)

/-! ## The constants -/

/-- The constant's value. -/
theorem ofBits_one : Ideal.ofBits .f32 0x3F800000#32 = ((1 : ℝ) : EReal) := by
  simp [Ideal.ofBits, Ideal.ieee, -EReal.coe_mul]; norm_num
/-- The constant's value. -/
theorem ofBits_two : Ideal.ofBits .f32 0x40000000#32 = ((2 : ℝ) : EReal) := by
  simp [Ideal.ofBits, Ideal.ieee, -EReal.coe_mul]; norm_num
/-- The constant's value. -/
theorem ofBits_127 : Ideal.ofBits .f32 0x42FE0000#32 = ((127 : ℝ) : EReal) := by
  simp [Ideal.ofBits, Ideal.ieee, -EReal.coe_mul]; norm_num
/-- The constant's value. -/
theorem ofBits_128 : Ideal.ofBits .f32 0x43000000#32 = ((128 : ℝ) : EReal) := by
  simp [Ideal.ofBits, Ideal.ieee, -EReal.coe_mul]; norm_num
/-- The constant's value. -/
theorem ofBits_neg150 : Ideal.ofBits .f32 0xC3160000#32 = ((-150 : ℝ) : EReal) := by
  simp [Ideal.ofBits, Ideal.ieee, -EReal.coe_mul]; norm_num

/-- The constant nearest 1/448 is a positive number. -/
theorem ofBits_inv448 : ∃ κ : ℝ, 0 < κ ∧ Ideal.ofBits .f32 0x3B124925#32 = (κ : EReal) := by
  refine ⟨9586981 * 2 ^ (-32 : ℤ), by positivity, ?_⟩
  simp [Ideal.ofBits, Ideal.ieee, -EReal.coe_mul]

/-! ## The exponent -/

/-- Both exponents are the same integer, between -149 and 128. -/
theorem expo_eq (a : EReal) (ha : 0 ≤ a) :
    ∃ n : ℤ, -149 ≤ n ∧ n ≤ 128 ∧ kExpo a = BitVec.ofInt 32 n ∧ rExpo a = ((n : ℝ) : EReal) := by
  obtain ⟨κ, hκ, hκe⟩ := ofBits_inv448
  induction a using EReal.rec with
  | bot => exact absurd ha (by simp)
  | top =>
    refine ⟨0, by norm_num, by norm_num, ?_, ?_⟩
    · have hr : ratio ⊤ = ⊤ := by rw [ratio, hκe, EReal.top_mul_coe_of_pos hκ]
      unfold kExpo
      rw [hr, Ideal.ofBits_zero_f32, ofBits_inf]
      simp [Ideal.cmp, Scalar.select, IntOp.andi]
    · unfold rExpo
      rw [Ideal.ofBits_zero_f32, ofBits_inf]
      simp [Ideal.cmp, Scalar.select, IntOp.ori]
  | coe r =>
    have hr0 : 0 ≤ r := by exact_mod_cast ha
    rcases hr0.eq_or_lt with h | hr
    · subst h
      refine ⟨0, by norm_num, by norm_num, ?_, ?_⟩
      · unfold kExpo
        rw [Ideal.ofBits_zero_f32]
        simp [Ideal.cmp, Scalar.select]
      · unfold rExpo
        rw [Ideal.ofBits_zero_f32, ofBits_inf]
        simp [Ideal.cmp, Scalar.select, IntOp.ori]
    · have hv : ratio (r : EReal) = ((r * κ : ℝ) : EReal) := by rw [ratio, hκe, EReal.coe_mul]
      have hvp : 0 < r * κ := mul_pos hr hκ
      obtain ⟨n, hk, hn, hn', hlo, hhi⟩ := search1_inv ((r * κ : ℝ) : EReal) (EReal.coe_lt_top _)
      have hf := clip_floor (r * κ) hvp n hn hn' hlo hhi
      have hrne : (r : EReal) ≠ 0 := by exact_mod_cast hr.ne'
      refine ⟨n + 1, by omega, by omega, ?_, ?_⟩
      · unfold kExpo
        rw [hv, Ideal.ofBits_zero_f32, ofBits_inf, hk]
        have h1 : Ideal.cmp .oeq (r : EReal) 0 = 0#1 := by simp [Ideal.cmp, hrne]
        have h2 : Ideal.cmp .ogt ((r * κ : ℝ) : EReal) 0 = 1#1 := by
          have : (0 : EReal) < ((r * κ : ℝ) : EReal) := by exact_mod_cast hvp
          simp only [Ideal.cmp, this, decide_true]; rfl
        have h3 : Ideal.cmp .olt ((r * κ : ℝ) : EReal) ⊤ = 1#1 := by
          simp only [Ideal.cmp, EReal.coe_lt_top, decide_true]; rfl
        rw [h1, h2, h3, ValueIdx.select_zero, show IntOp.andi 1#1 1#1 = 1#1 from rfl, ValueIdx.select_one]
        exact (BitVec.ofInt_add n 1).symm
      · unfold rExpo
        rw [hv, Ideal.ofBits_zero_f32, ofBits_inf, ofBits_one, ofBits_127, ofBits_neg150, ofBits_two]
        have h1 : Ideal.cmp .oeq (r : EReal) 0 = 0#1 := by simp [Ideal.cmp, hrne]
        have h2 : Ideal.cmp .oeq (r : EReal) ⊤ = 0#1 := by simp [Ideal.cmp]
        rw [h1, h2, show IntOp.ori 0#1 0#1 = 0#1 from rfl, ValueIdx.select_zero]
        have hl : Ideal.log ((r * κ : ℝ) : EReal) = (Real.log (r * κ) : EReal) := if_neg (not_le.mpr hvp)
        have hl2 : Ideal.log ((2 : ℝ) : EReal) = (Real.log 2 : EReal) := if_neg (by norm_num)
        have hlp : Real.log 2 ≠ 0 := (Real.log_pos (by norm_num)).ne'
        rw [hl, hl2, Ideal.div_coe hlp, ← EReal.coe_mul]
        have hfl : Ideal.liftRound Int.floor ((Real.log (r * κ) * (1 / Real.log 2) : ℝ) : EReal)
            = ((⌊Real.log (r * κ) / Real.log 2⌋ : ℝ) : EReal) := by
          rw [mul_one_div]; rfl
        rw [hfl]
        have hmax : ∀ x y : ℝ, max (x : EReal) (y : EReal) = ((max x y : ℝ) : EReal) := fun x y => (EReal.coe_strictMono.monotone.map_max).symm
        have hmin : ∀ x y : ℝ, min (x : EReal) (y : EReal) = ((min x y : ℝ) : EReal) := fun x y => (EReal.coe_strictMono.monotone.map_min).symm
        rw [hmax, hmin, ← EReal.coe_add]
        congr 1
        have : (min 127 (max (-150) (⌊Real.log (r * κ) / Real.log 2⌋ : ℝ)) : ℝ) = (n : ℝ) := by
          rw [← hf]; push_cast; rfl
        rw [this]; push_cast; ring

/-- Two to an integer power by the two roads. -/
theorem rPow_int (n : ℤ) : rPow ((n : ℝ) : EReal) = T n := by
  unfold rPow T
  rw [ofBits_128, ofBits_inf]
  by_cases h : 128 ≤ n
  · have : ((128 : ℝ) : EReal) ≤ ((n : ℝ) : EReal) := by exact_mod_cast h
    rw [if_pos h, show Ideal.cmp .oge ((n : ℝ) : EReal) ((128 : ℝ) : EReal) = 1#1 by simp only [Ideal.cmp, this, decide_true]; rfl,
      ValueIdx.select_one]
  · have : ¬ ((128 : ℝ) : EReal) ≤ ((n : ℝ) : EReal) := by exact_mod_cast h
    rw [if_neg h, show Ideal.cmp .oge ((n : ℝ) : EReal) ((128 : ℝ) : EReal) = 0#1 by simp only [Ideal.cmp, this, decide_false]; rfl,
      ValueIdx.select_zero]
    show ((Real.rpow 2 (n : ℝ) : ℝ) : EReal) = _
    congr 1
    exact Real.rpow_intCast 2 n

/-- The two scales agree, -/
theorem scale_eq (a : EReal) (ha : 0 ≤ a) : p2 (kExpo a) = rPow (rExpo a) := by
  obtain ⟨n, h1, h2, hk, hr⟩ := expo_eq a ha
  rw [hk, hr, p2_ofInt n h1 (by omega), rPow_int]

/-- and so do the two factors that divide by the scale. -/
theorem inv_scale_eq (a : EReal) (ha : 0 ≤ a) :
    p2 (IntOp.subi 0#32 (kExpo a)) = rPow (Ideal.ofBits .f32 0x00000000#32 - rExpo a) := by
  obtain ⟨n, h1, h2, hk, hr⟩ := expo_eq a ha
  have hneg : IntOp.subi 0#32 (BitVec.ofInt 32 n) = BitVec.ofInt 32 (-n) := by
    rw [BitVec.ofInt_neg]; exact BitVec.zero_sub _
  have hneg' : (0 : EReal) - ((n : ℝ) : EReal) = (((-n : ℤ) : ℝ) : EReal) := by
    rw [← EReal.coe_zero, ← EReal.coe_sub]; congr 1; push_cast; ring
  rw [hk, hr, hneg, p2_ofInt (-n) (by omega) (by omega), Ideal.ofBits_zero_f32, hneg', rPow_int]

end Cert.Quant

end
-- ==== Proof.Quant.lean ====
/-
  The codes and the scales of the rows: the kernel's windows of codes and scales hold what the reference's hold.
-/
module

public import proofs.«01_k».proof.Proof.KBody
public import proofs.«01_k».proof.Proof.Expo
public import proofs.«01_k».proof.Proof.Gen.ReferenceIdeal.Frame
public import Idealize.ShloMosaic.Lib.Pipeline.Value
public import Idealize.ShloMosaic.Lib.Pointwise.Reshape

@[expose] public section

set_option maxRecDepth 16384

noncomputable section

namespace Cert.Quant

open Idealize.ShloMosaic Idealize.ShloMosaic.ValueIdx
open Cert.KernelIdeal (S256x6400 S256x1)

/-- The offset of a whole load or store is zero on both axes. -/
theorem off00 : (![0, 0] : Fin 2 → ℕ) = fun _ => 0 := by
  funext a; fin_cases a <;> rfl

/-- A row's largest magnitude is not negative. -/
theorem amax_nonneg (x : Vec Ideal S256x6400 .bf16) (i : S256x1.Idx) : (0 : EReal) ≤ Cert.KernelIdeal.Hand.amax x i := by
  refine le_of_le_of_eq ?_ (Ideal.multiReduction_maximumf_single (φ := .f32) (absf (Cert.KernelIdeal.Hand.xf x)) 0xFF800000#32
    Cert.KernelIdeal.Gen.reduces_S256x6400_S256 (.inl rfl) rfl (Shape.reshapeEquiv Cert.KernelIdeal.Gen.shapeCasts_S256_S256x1 i)).symm
  show (0 : EReal) ≤ Finset.fold max _ _ _
  rw [Finset.le_fold_max]
  refine .inr ⟨⟨0, by decide⟩, Finset.mem_univ _, ?_⟩
  have : ∀ y : EReal, 0 ≤ max y (-y) := fun y => by
    rcases le_total 0 y with h | h
    · exact le_max_of_le_left h
    · exact le_max_of_le_right (EReal.neg_nonneg.mpr h)
  exact this _

/-! ## The kernel's search and word, row by row -/

/-- The kernel's power of two, at one row. -/
theorem pow2_apply (e : IVec S256x1 32) (i : S256x1.Idx) : Cert.KernelIdeal.Hand.pow2 (F := Ideal) e i = p2 (e i) := rfl

/-- One halving of the kernel's search, at one row. -/
theorem halve_apply (v : FVec Ideal S256x1 .f32) (k : IVec S256x1 32) (s : BitVec 32) (i : S256x1.Idx) :
    Cert.KernelIdeal.Hand.halve v k s i = halve1 (v i) (k i) s := rfl

/-- The kernel's search, at one row. -/
theorem search_apply (v : FVec Ideal S256x1 .f32) (i : S256x1.Idx) : Cert.KernelIdeal.Hand.search v i = search1 (v i) := by
  unfold Cert.KernelIdeal.Hand.search search1
  rw [halve_apply, halve_apply, halve_apply, halve_apply, halve_apply, halve_apply, halve_apply, halve_apply, halve_apply,
    broadcast_apply]

/-- The kernel's exponent of a row, from the row's largest magnitude `A` and the ratio `V`, is the search's. -/
theorem expo_row (A V : FVec Ideal S256x1 .f32) (i : S256x1.Idx) (hV : V i = ratio (A i)) :
    Cert.KernelIdeal.Gen.k0_pay25 A (Cert.KernelIdeal.Hand.search V) (Cert.KernelIdeal.Gen.k0_pay24 V) i = kExpo (A i) := by
  have h : Cert.KernelIdeal.Gen.k0_pay25 A (Cert.KernelIdeal.Hand.search V) (Cert.KernelIdeal.Gen.k0_pay24 V) i
      = Scalar.select (Ideal.cmp .oeq (A i) (Ideal.ofBits .f32 0x00000000#32)) 0#32
    (Scalar.select (IntOp.andi (Ideal.cmp .ogt (V i) (Ideal.ofBits .f32 0x00000000#32))
      (Ideal.cmp .olt (V i) (Ideal.ofBits .f32 0x7F800000#32))) (IntOp.addi (Cert.KernelIdeal.Hand.search V i) 1#32) 0#32) := rfl
  rw [h, search_apply, hV]
  rfl

/-- The ratio to 448, at one row. -/
theorem ratio_row (A : FVec Ideal S256x1 .f32) (i : S256x1.Idx) :
    mulf A (broadcast S256x1 (Scalar.ofBits .f32 0x3B124925#32)) i = ratio (A i) := by
  unfold ratio
  rw [mulf_apply, broadcast_apply, Ideal.ofBits_def]

/-- The kernel's stored ratio, at one row. -/
theorem pay4_apply (x : Vec Ideal S256x6400 .bf16) (i : S256x1.Idx) :
    Cert.KernelIdeal.Gen.k0_pay4 (F := Ideal) x i = ratio (Cert.KernelIdeal.Gen.k0_pay3 x i) := by
  unfold Cert.KernelIdeal.Gen.k0_pay4
  rw [ratio_row]

/-- The kernel's exponent of a row is the search's. -/
theorem expo_apply (x : Vec Ideal S256x6400 .bf16) (i : S256x1.Idx) :
    Cert.KernelIdeal.Hand.expo x i = kExpo (Cert.KernelIdeal.Hand.amax x i) := by
  unfold Cert.KernelIdeal.Hand.expo Cert.KernelIdeal.Hand.amax
  exact expo_row _ _ i (pay4_apply _ i)

/-- The reference's exponent from the rows' largest magnitudes. -/
def rExpoV (A : FVec Ideal S256x1 .f32) : FVec Ideal S256x1 .f32 :=
  select (ori (cmpf .oeq A (broadcast S256x1 (Scalar.ofBits .f32 0x00000000#32)))
      (cmpf .oeq A (broadcast S256x1 (Scalar.ofBits .f32 0x7F800000#32))))
    (broadcast S256x1 (Scalar.ofBits .f32 0x00000000#32))
    (addf (broadcast S256x1 (Scalar.ofBits .f32 0x3F800000#32))
      (minimumf (broadcast S256x1 (Scalar.ofBits .f32 0x42FE0000#32))
        (maximumf (broadcast S256x1 (Scalar.ofBits .f32 0xC3160000#32))
          (floor (divf (log (mulf A (broadcast S256x1 (Scalar.ofBits .f32 0x3B124925#32))))
            (log (broadcast S256x1 (Scalar.ofBits .f32 0x40000000#32))))))))

/-- The operation reads its operands at the same row. -/
theorem log_apply (a : FVec Ideal S256x1 .f32) (i : S256x1.Idx) : log a i = Ideal.log (a i) := rfl
/-- The operation reads its operands at the same row. -/
theorem floor_apply (a : FVec Ideal S256x1 .f32) (i : S256x1.Idx) : floor a i = Ideal.liftRound Int.floor (a i) := rfl
/-- The operation reads its operands at the same row. -/
theorem exp2_apply (a : FVec Ideal S256x1 .f32) (i : S256x1.Idx) : exp2 a i = Ideal.exp2 (a i) := rfl
/-- The operation reads its operands at the same row. -/
theorem subi_apply (a b : IVec S256x1 32) (i : S256x1.Idx) : subi a b i = IntOp.subi (a i) (b i) := rfl
/-- The operation reads its operands at the same row. -/
theorem ori_apply (a b : IVec S256x1 1) (i : S256x1.Idx) : ori a b i = IntOp.ori (a i) (b i) := rfl

/-- The reference's exponent, at one row. -/
theorem rExpoV_apply (A : FVec Ideal S256x1 .f32) (i : S256x1.Idx) : rExpoV A i = rExpo (A i) := by
  unfold rExpoV rExpo
  rw [select_apply, ori_apply, cmpf_apply, cmpf_apply, addf_apply, minimumf_apply, maximumf_apply, floor_apply, divf_apply,
    log_apply, log_apply, ratio_row]
  simp only [broadcast_apply, Ideal.ofBits_def, Ideal.cmpf_def]

/-- The reference's power of two of a column. -/
def rPowV (e : FVec Ideal S256x1 .f32) : FVec Ideal S256x1 .f32 :=
  select (cmpf .oge e (broadcast S256x1 (Scalar.ofBits .f32 0x43000000#32)))
    (broadcast S256x1 (Scalar.ofBits .f32 0x7F800000#32)) (exp2 e)

/-- The reference's power of two, at one row. -/
theorem rPowV_apply (e : FVec Ideal S256x1 .f32) (i : S256x1.Idx) : rPowV e i = rPow (e i) := by
  unfold rPowV rPow
  rw [select_apply, cmpf_apply, exp2_apply]
  simp only [broadcast_apply, Ideal.ofBits_def, Ideal.cmpf_def]

/-- The reference's exponents are those of the rows' largest magnitudes. -/
theorem pay2_eq (x : Vec Ideal S256x6400 .bf16) :
    Cert.ReferenceIdeal.Gen.k0_pay2 (F := Ideal) x = rExpoV (Cert.KernelIdeal.Gen.k0_pay3 x) := by
  unfold Cert.ReferenceIdeal.Gen.k0_pay2 rExpoV Cert.KernelIdeal.Gen.k0_pay3
  rfl

/-- The reference's scales are the powers of two of those exponents. -/
theorem pay3_eq (x : Vec Ideal S256x6400 .bf16) :
    Cert.ReferenceIdeal.Gen.k0_pay3 (F := Ideal) x = rPowV (rExpoV (Cert.KernelIdeal.Gen.k0_pay3 x)) := by
  rw [← pay2_eq]; rfl

/-- The kernel's window of scales holds the reference's scales. -/
theorem outS_eq (x : Vec Ideal S256x6400 .bf16) (x1 x2 x3) :
    Cert.KernelIdeal.Hand.outS x = Cert.ReferenceIdeal.Gen.out0_6 (F := Ideal) x x1 x2 x3 := by
  unfold Cert.KernelIdeal.Hand.outS Cert.ReferenceIdeal.Gen.out0_6 Cert.ReferenceIdeal.Gen.k0_pay7
  rw [View.canon_unit_zero (S := S256x1) off00, View.canon_unit_zero (S := S256x1) off00, pay3_eq]
  funext i
  rw [pow2_apply, expo_apply, scale_eq _ (amax_nonneg x i), rPowV_apply, rExpoV_apply]
  unfold Cert.KernelIdeal.Hand.amax
  rfl

/-- The factors that divide by the scale agree. -/
theorem inv_eq (x : Vec Ideal S256x6400 .bf16) :
    Cert.KernelIdeal.Hand.pow2 (F := Ideal) (subi (broadcast S256x1 0#32) (Cert.KernelIdeal.Hand.expo x))
      = rPowV (subf (broadcast S256x1 (Scalar.ofBits .f32 0x00000000#32)) (rExpoV (Cert.KernelIdeal.Hand.amax x))) := by
  funext i
  rw [pow2_apply, rPowV_apply, subi_apply, subf_apply, broadcast_apply, broadcast_apply, Ideal.ofBits_def, expo_apply, rExpoV_apply]
  exact inv_scale_eq _ (amax_nonneg x i)

/-- The kernel's window of codes holds the reference's codes. -/
theorem outC_eq (x : Vec Ideal S256x6400 .bf16) (x1 x2 x3) :
    Cert.KernelIdeal.Hand.outC x = Cert.ReferenceIdeal.Gen.out0_5 (F := Ideal) x x1 x2 x3 := by
  unfold Cert.KernelIdeal.Hand.outC Cert.ReferenceIdeal.Gen.out0_5
  rw [View.canon_unit_zero (S := S256x6400) off00, View.canon_unit_zero (S := S256x6400) off00, inv_eq]
  unfold Cert.ReferenceIdeal.Gen.k0_pay5 Cert.ReferenceIdeal.Gen.k0_pay8 Cert.ReferenceIdeal.Gen.k0_pay4
  dsimp only
  rw [pay2_eq]
  rfl

end Cert.Quant

end
-- ==== Proof.Equal.lean ====
/-
  The equation: from equal arguments the kernel and the reference end with equal results, all three of them.
-/
module

public import proofs.«01_k».proof.Proof.KArr
public import proofs.«01_k».proof.Proof.RArr
public import proofs.«01_k».proof.Proof.Quant

@[expose] public section

set_option maxRecDepth 16384

noncomputable section

namespace Cert.Quant

open Idealize.ShloMosaic hiding ix2 ix3
open Idealize.ShloMosaic.ValueIdx
open Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs find the same activations, -/
theorem xs_eq (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Hand.xs m' c = Cert.KernelIdeal.Hand.xs m c := by
  unfold Cert.ReferenceIdeal.Hand.xs Cert.KernelIdeal.Hand.xs
  exact congrArg (fun x => shapeCast (α := Ideal .bf16) Cert.KernelIdeal.S256x6400 x
    Cert.KernelIdeal.Facts₀.shapeCasts_S256x1x6400_S256x6400) h

/-- and the same bias. -/
theorem bias_eq (h : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Hand.bias m' c = Cert.KernelIdeal.Hand.bias m c := by
  unfold Cert.ReferenceIdeal.Hand.bias Cert.KernelIdeal.Hand.bias
  exact congrArg (fun x => shapeCast (α := Ideal .f32) Cert.KernelIdeal.S1x27648 x
    Cert.KernelIdeal.Facts₀.shapeCasts_S27648_S1x27648) h

/-- So the codes agree, -/
theorem codes_agree (h : Cert.ReferenceIdeal.Hand.xs m' c = Cert.KernelIdeal.Hand.xs m c) :
    Cert.ReferenceIdeal.Hand.codesR m' c = Cert.KernelIdeal.Hand.outC (Cert.KernelIdeal.Hand.xs m c) := by
  unfold Cert.ReferenceIdeal.Hand.codesR
  rw [h]
  exact (outC_eq _ _ _ _).symm

/-- the scales agree, -/
theorem scales_agree (h : Cert.ReferenceIdeal.Hand.xs m' c = Cert.KernelIdeal.Hand.xs m c) :
    Cert.ReferenceIdeal.Hand.scalesR m' c = Cert.KernelIdeal.Hand.outS (Cert.KernelIdeal.Hand.xs m c) := by
  unfold Cert.ReferenceIdeal.Hand.scalesR
  rw [h]
  exact (outS_eq _ _ _ _).symm

/-- and the product agrees: at every row and column both are the same sums. -/
theorem result_agree (h0 : Cert.ReferenceIdeal.Hand.xs m' c = Cert.KernelIdeal.Hand.xs m c)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : Cert.ReferenceIdeal.Hand.bias m' c = Cert.KernelIdeal.Hand.bias m c) :
    Cert.ReferenceIdeal.Hand.result m' c = Cert.KernelIdeal.Hand.result m c := by
  have key : ∀ i : Cert.KernelIdeal.S256x27648.Idx, (Cert.ReferenceIdeal.Hand.result m' c : Vec Ideal Cert.KernelIdeal.S256x27648 .bf16) i
      = Cert.KernelIdeal.Hand.result m c i := fun i => by
    unfold Cert.ReferenceIdeal.Hand.result
    rw [codes_agree m m' c h0, scales_agree m m' c h0, h1, h2, h3]
    exact (congrArg _ (ValueIdx.eq_ix2 i)).trans (Cert.ReferenceIdeal.Hand.yR_apply _ _ _ _ _ (i 0) (i 1))
  exact funext key

end Cert.Quant

end
-- ==== Proof.lean ====
/-
  The certificate of the grouped 4-bit-weight linear layer on 8-bit-float activations: the three frames, `preserves`, and the equality
  of kernel and reference over the extended reals, put together from the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.PFrame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- From equal arguments the kernel and the reference, read over the extended reals, end with equal results. -/
theorem algebraic : Cert.algebraic_KernelIdeal_ReferenceIdeal (hKernelIdeal := Cert.KernelIdeal.Gen.facts)
    (hReferenceIdeal := Cert.ReferenceIdeal.Gen.facts) := fun m g m' g' _ hag =>
  ⟨fun c => Cert.KernelIdeal.Hand.result m c, fun c => Cert.KernelIdeal.Hand.outC (Cert.KernelIdeal.Hand.xs m c),
    fun c => Cert.KernelIdeal.Hand.outS (Cert.KernelIdeal.Hand.xs m c), Cert.KernelIdeal.Hand.run m g,
    (θ_run _ _ _).mono (fun _ h c => by
      obtain ⟨a0, a1, a2, a3⟩ := hag c
      have hx := Cert.Quant.xs_eq m m' c a0
      have hb := Cert.Quant.bias_eq m m' c a3
      obtain ⟨r0, r1, r2, hargs⟩ := h c
      exact ⟨r0.trans (Cert.Quant.result_agree m m' c hx a1 a2 hb), r1.trans (Cert.Quant.codes_agree m m' c hx),
        r2.trans (Cert.Quant.scales_agree m m' c hx), hargs⟩) (Cert.ReferenceIdeal.Hand.run m' g')⟩

/-- All five claims: the three programs end with their arguments unchanged, the ideal kernel is the kernel's text, and kernel and
    reference agree. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ,
  trivial, algebraic⟩

end Cert.Proof

end
